-- ==== Defs.lean ====
def Pre_Kernel [hPre_sorted_pointers : Cert.Pre_sorted_pointers.Facts] (m : (ℓ : Loc Cert.Kernel.nD Cert.Kernel.τ Cert.Kernel.sig) → Buf (Elt Bits) ℓ) : Prop :=
  ∀ c : Dev Cert.Kernel.nD,
    (Cert.Pre_sorted_pointers.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_pointers : Cert.Pre_sorted_pointers.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_pointers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_pointers [hPre_sorted_pointers : Cert.Pre_sorted_pointers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_pointers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_pointers : Cert.Pre_sorted_pointers.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_pointers : Cert.Pre_sorted_pointers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_pointers [hReferenceIdeal : Cert.ReferenceIdeal.Facts] [hPre_sorted_pointers : Cert.Pre_sorted_pointers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_pointers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "slope" .bf16 0x3E4D#16 ((13421773 / 67108864 : ℝ) : EReal)

def algebraic_KernelIdeal_ReferenceIdeal [hKernelIdeal : Cert.KernelIdeal.Facts] [hReferenceIdeal : Cert.ReferenceIdeal.Facts] [hPre_sorted_pointers : Cert.Pre_sorted_pointers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_pointers : Cert.Pre_sorted_pointers.Facts),
    quiescent_Kernel (hKernel := hKernel) (hPre_sorted_pointers := hPre_sorted_pointers)
    ∧ quiescent_KernelIdeal (hKernelIdeal := hKernelIdeal) (hPre_sorted_pointers := hPre_sorted_pointers)
    ∧ quiescent_ReferenceIdeal (hReferenceIdeal := hReferenceIdeal)
    ∧ quiescent_ReferenceIdeal_pre_sorted_pointers (hReferenceIdeal := hReferenceIdeal) (hPre_sorted_pointers := hPre_sorted_pointers)
    ∧ preserves_Kernel_KernelIdeal
    ∧ algebraic_KernelIdeal_ReferenceIdeal (hKernelIdeal := hKernelIdeal) (hReferenceIdeal := hReferenceIdeal) (hPre_sorted_pointers := hPre_sorted_pointers)
-- ==== Pre_sorted_pointers.lean ====
abbrev S32768x256 : Shape := ⟨2, ![32768, 256]⟩
abbrev S17 : Shape := ⟨1, ![17]⟩
abbrev S256x256 : Shape := ⟨2, ![256, 256]⟩
abbrev S256 : Shape := ⟨1, ![256]⟩
abbrev S_ : Shape := ⟨0, ![]⟩
abbrev S16 : Shape := ⟨1, ![16]⟩

class Facts : Prop where
  bcast_S_S17 : S_.BroadcastsInDim S17 (![] : Fin 0 → Fin S17.rank)
  reducesTo_S17_S_d0 : S17.ReducesTo [0] S_
  h_S_ : 0 < S_.numel
  slices_S17_S16_0 : S17.Slices ![0] S16
  slices_S17_S16_1 : S17.Slices ![1] S16
  reducesTo_S16_S_d0 : S16.ReducesTo [0] S_

variable [Facts]

def fn {F : FTy → Type} [FloatOps F] (main_arg0 : FVec F S32768x256 .f32) (main_arg1 : IVec S17 32) (main_arg2 : FVec F S256x256 .f32) (main_arg3 : FVec F S256 .f32) : IVec S_ 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 1 := constantI S_ 1 1#1
  let main_v2 : IVec S_ 1 := (fun x v => Host.reduce IntOp.andi x v reducesTo_S17_S_d0 h_S_) main_v1 main_c_0
  let main_c_1 : IVec S_ 32 := constantI S_ 32 32768#32
  let main_v3 : IVec S17 32 := broadcastInDim S17 ![] bcast_S_S17 main_c_1
  let main_v4 : IVec S17 1 := cmpi .slt main_arg1 main_v3
  let main_c_2 : IVec S_ 1 := constantI S_ 1 1#1
  let main_v5 : IVec S_ 1 := (fun x v => Host.reduce IntOp.andi x v reducesTo_S17_S_d0 h_S_) main_v4 main_c_2
  let main_v6 : IVec S_ 1 := andi main_v2 main_v5
  let main_v7 : IVec S16 32 := (extractStridedSlice S16 ![0] · slices_S17_S16_0) main_arg1
  let main_v8 : IVec S16 32 := (extractStridedSlice S16 ![1] · slices_S17_S16_1) main_arg1
  let main_v9 : IVec S16 1 := cmpi .sle main_v7 main_v8
  let main_c_3 : IVec S_ 1 := constantI S_ 1 1#1
  let main_v10 : IVec S_ 1 := (fun x v => Host.reduce IntOp.andi x v reducesTo_S16_S_d0 h_S_) main_v9 main_c_3
  let main_v11 : IVec S_ 1 := andi main_v6 main_v10
  main_v11
-- ==== Kernel.lean ====
abbrev S32768x256 : Shape := ⟨2, ![32768, 256]⟩
abbrev S17 : Shape := ⟨1, ![17]⟩
abbrev S256x256 : Shape := ⟨2, ![256, 256]⟩
abbrev S256 : Shape := ⟨1, ![256]⟩
abbrev S16x256 : Shape := ⟨2, ![16, 256]⟩
abbrev S8192x256 : Shape := ⟨2, ![8192, 256]⟩
abbrev S1 : Shape := ⟨1, ![1]⟩
abbrev S1x256 : Shape := ⟨2, ![1, 256]⟩
abbrev S16 : Shape := ⟨1, ![16]⟩
abbrev S16x1 : Shape := ⟨2, ![16, 1]⟩
abbrev S16x8192 : Shape := ⟨2, ![16, 8192]⟩

abbrev nBuf : Space → Nat
  | .hbm => 4
  | .vmem => 5
  | .smem => 1
  | _ => 0

abbrev bufTy : (tb : Table) → Fin (tcTables nBuf tb) → BufTy
  | .hbm, ⟨0, _⟩ => ⟨S32768x256, .f32⟩
  | .hbm, ⟨1, _⟩ => ⟨S256x256, .f32⟩
  | .hbm, ⟨2, _⟩ => ⟨S256, .f32⟩
  | .hbm, ⟨3, _⟩ => ⟨S16x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S256, .f32⟩
  | .local _ .vmem, ⟨4, _⟩ => ⟨S16x256, .f32⟩
  | .local _ .smem, ⟨0, _⟩ => ⟨S17, .i32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_13 : BitVec 32 := 0#32
  let v40 : BitVec 1 := Scalar.cmpi .eq arg0 c0_i32_13
  let v41 : BitVec 32 := Scalar.extui v40
  let c0_i32_14 : BitVec 32 := 0#32
  let v42 : BitVec 1 := Scalar.cmpi .ne v41 c0_i32_14
  v42

def k0_cond2 (i : grid0.Coords) (v0 : BitVec 32) (v18 : BitVec 32) (v20 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8192_i32 : BitVec 32 := 8192#32
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let v1 : BitVec 32 := Scalar.divsi v0 c8192_i32
  let c1_i32 : BitVec 32 := 1#32
  let v16 : BitVec 32 := Scalar.subi v1 c1_i32
  let v17 : BitVec 32 := Scalar.select v15 v16 v1
  let arg0 : BitVec 32 := BitVec.ofNat 32 (i 0).val
  let v39 : BitVec 32 := Scalar.addi v17 arg0
  let c1_i32_4 : BitVec 32 := 1#32
  let v19 : BitVec 32 := Scalar.subi v18 c1_i32_4
  let v21 : BitVec 32 := Scalar.maxsi v19 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c8192_i32_6 : BitVec 32 := 8192#32
  let c0_i32_9 : BitVec 32 := 0#32
  let v28 : BitVec 1 := Scalar.cmpi .sgt c8192_i32_6 c0_i32_9
  let v29 : BitVec 32 := Scalar.extui v28
  let c0_i32_10 : BitVec 32 := 0#32
  let v30 : BitVec 1 := Scalar.cmpi .slt c8192_i32_6 c0_i32_10
  let v31 : BitVec 32 := Scalar.extui v30
  let v32 : BitVec 32 := Scalar.subi v29 v31
  let v33 : BitVec 1 := Scalar.cmpi .ne v27 v32
  let v34 : BitVec 32 := Scalar.remsi v21 c8192_i32_6
  let c0_i32_11 : BitVec 32 := 0#32
  let v35 : BitVec 1 := Scalar.cmpi .ne v34 c0_i32_11
  let v36 : BitVec 1 := Scalar.andi v33 v35
  let v22 : BitVec 32 := Scalar.divsi v21 c8192_i32_6
  let c1_i32_12 : BitVec 32 := 1#32
  let v37 : BitVec 32 := Scalar.subi v22 c1_i32_12
  let v38 : BitVec 32 := Scalar.select v36 v37 v22
  let v43 : BitVec 1 := Scalar.cmpi .sle v39 v38
  let v44 : BitVec 32 := Scalar.extui v43
  let c0_i32_15 : BitVec 32 := 0#32
  let v45 : BitVec 1 := Scalar.cmpi .ne v44 c0_i32_15
  v45

def cc0_transform_0 (inb_S17_S1_0 : ∀ a, (![0] : Fin 1 → Nat) a + S1.size a ≤ S17.size a) (numel1_S1 : S1.numel = 1) (inb_S17_S1_16 : ∀ a, (![16] : Fin 1 → Nat) a + S1.size a ≤ S17.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S17) ![0] S1.size inb_S17_S1_0) numel1_S1
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16 : Index := 16#32
  let v18 : BitVec 32 := pf.at 0 (Rect.unit (s := S17) ![16] S1.size inb_S17_S1_16) numel1_S1
  let c1_i32_4 : BitVec 32 := 1#32
  let v19 : BitVec 32 := Scalar.subi v18 c1_i32_4
  let c0_5 : Index := 0#32
  let v20 : BitVec 32 := pf.at 0 (Rect.unit (s := S17) ![0] S1.size inb_S17_S1_0) numel1_S1
  let v21 : BitVec 32 := Scalar.maxsi v19 v20
  let c8192_i32_6 : BitVec 32 := 8192#32
  let v22 : BitVec 32 := Scalar.divsi v21 c8192_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c0_i32_9 : BitVec 32 := 0#32
  let v28 : BitVec 1 := Scalar.cmpi .sgt c8192_i32_6 c0_i32_9
  let v29 : BitVec 32 := Scalar.extui v28
  let c0_i32_10 : BitVec 32 := 0#32
  let v30 : BitVec 1 := Scalar.cmpi .slt c8192_i32_6 c0_i32_10
  let v31 : BitVec 32 := Scalar.extui v30
  let v32 : BitVec 32 := Scalar.subi v29 v31
  let v33 : BitVec 1 := Scalar.cmpi .ne v27 v32
  let v34 : BitVec 32 := Scalar.remsi v21 c8192_i32_6
  let c0_i32_11 : BitVec 32 := 0#32
  let v35 : BitVec 1 := Scalar.cmpi .ne v34 c0_i32_11
  let v36 : BitVec 1 := Scalar.andi v33 v35
  let c1_i32_12 : BitVec 32 := 1#32
  let v37 : BitVec 32 := Scalar.subi v22 c1_i32_12
  let v38 : BitVec 32 := Scalar.select v36 v37 v22
  let v39 : BitVec 32 := Scalar.addi v17 arg0
  let v40 : BitVec 32 := Scalar.minsi v39 v38
  let c0_i32_13 : BitVec 32 := 0#32
  let c0_i32_14 : BitVec 32 := 0#32
  ![v40.toNat, c0_i32_13.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "slope" => some ((13421773 / 67108864 : ℝ) : EReal)
  | _ => none
-- ==== ReferenceIdeal.lean ====
abbrev S32768x256 : Shape := ⟨2, ![32768, 256]⟩
abbrev S17 : Shape := ⟨1, ![17]⟩
abbrev S256x256 : Shape := ⟨2, ![256, 256]⟩
abbrev S256 : Shape := ⟨1, ![256]⟩
abbrev S1x256 : Shape := ⟨2, ![1, 256]⟩
abbrev S_ : Shape := ⟨0, ![]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S1 : Shape := ⟨1, ![1]⟩
abbrev S16x256 : Shape := ⟨2, ![16, 256]⟩

abbrev nBuf : Space → Nat
  | .hbm => 55
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S17, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S32768x256, .f32⟩
  | .hbm, ⟨6, _⟩ => ⟨S1x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .i1⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768, .i32⟩
  | .hbm, ⟨17, _⟩ => ⟨S1x17, .i32⟩
  | .hbm, ⟨18, _⟩ => ⟨S32768x1, .i32⟩
  | .hbm, ⟨19, _⟩ => ⟨S32768x17, .i32⟩
  | .hbm, ⟨20, _⟩ => ⟨S32768x17, .i32⟩
  | .hbm, ⟨21, _⟩ => ⟨S32768x17, .i1⟩
  | .hbm, ⟨22, _⟩ => ⟨S32768x17, .i32⟩
  | .hbm, ⟨23, _⟩ => ⟨S_, .i32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S1, .i32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S1, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S32768, .i1⟩
  | .hbm, ⟨45, _⟩ => ⟨S32768x1, .i1⟩
  | .hbm, ⟨46, _⟩ => ⟨S_, .f32⟩
  | .hbm, ⟨47, _⟩ => ⟨S_, .f32⟩
  | .hbm, ⟨48, _⟩ => ⟨S32768x256, .i1⟩
  | .hbm, ⟨49, _⟩ => ⟨S32768x256, .f32⟩
  | .hbm, ⟨50, _⟩ => ⟨S32768x256, .f32⟩
  | .hbm, ⟨51, _⟩ => ⟨S_, .f32⟩
  | .hbm, ⟨52, _⟩ => ⟨S16x256, .f32⟩
  | .hbm, ⟨53, _⟩ => ⟨S32768x1, .i32⟩
  | .hbm, ⟨54, _⟩ => ⟨S16x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Words.lean ====
/- THE POINTER WORDS: the kernel's integer control read as natural numbers. A table of 17 words that are row numbers in
   increasing order decides the first and the last block of 8192 rows that hold a row of a segment; the kernel finds both by
   signed divisions rounded down, written with sign tests. Nothing here names a program. -/
module

public import Idealize.ShloMosaic.PureOps.Ideal
public import Idealize.ShloMosaic.Lib.WordArith
public import Idealize.ShloMosaic.Lib.StableHlo.Predicate

@[expose] public section

namespace Cert.Words

open Idealize.ShloMosaic

/-- The sign of a word: 1, 0 or -1. -/
def sgn (v : BitVec 32) : BitVec 32 :=
  Scalar.subi (Scalar.extui (Scalar.cmpi .sgt v 0#32)) (Scalar.extui (Scalar.cmpi .slt v 0#32))

/-- The quotient of a word by 8192 rounded down, as the kernel computes it. -/
def fdiv (v : BitVec 32) : BitVec 32 :=
  Scalar.select
    (Scalar.andi (Scalar.cmpi .ne (sgn v) (sgn 8192#32)) (Scalar.cmpi .ne (Scalar.remsi v 8192#32) 0#32))
    (Scalar.subi (Scalar.divsi v 8192#32) 1#32) (Scalar.divsi v 8192#32)

/-- The block a grid point asks for: the first block plus the point. -/
def blk (a : BitVec 32) (i : ℕ) : BitVec 32 := Scalar.addi (fdiv a) (BitVec.ofNat 32 i)

/-- The last block: the one of the row before the end pointer, or of the first pointer when that is later. -/
def lastBlk (a b : BitVec 32) : BitVec 32 := fdiv (Scalar.maxsi (Scalar.subi b 1#32) a)

/-- Whether a grid point's block is at most the last block, as the kernel computes it. -/
def live (a b : BitVec 32) (i : ℕ) : BitVec 1 :=
  Scalar.cmpi .ne (Scalar.extui (Scalar.cmpi .sle (blk a i) (lastBlk a b))) 0#32

theorem msb_of_small {v : BitVec 32} (h : v.toNat < 32768) : v.msb = false := by
  rw [BitVec.msb_eq_decide]; simp; omega

theorem sgn_pos {v : BitVec 32} (h : v.toNat < 32768) (h0 : v ≠ 0#32) : sgn v = 1#32 := by
  have hp : 0 < v.toNat := by
    rcases Nat.eq_zero_or_pos v.toNat with h1 | h1
    · exact absurd (BitVec.eq_of_toNat_eq (by simpa using h1)) h0
    · exact h1
  have hi : v.toInt = v.toNat := BitVec.toInt_eq_toNat_of_lt (by omega)
  have h1 : (0#32).slt v = true := by simp [BitVec.slt, hi]; omega
  have h2 : v.slt 0#32 = false := by simp [BitVec.slt, hi]
  simp [sgn, Scalar.subi, Scalar.extui, Scalar.cmpi, IntOp.subi, IntOp.cmpi, h1, h2]

theorem divsi_small {v : BitVec 32} (h : v.toNat < 32768) : Scalar.divsi v 8192#32 = BitVec.ofNat 32 (v.toNat / 8192) := by
  have hc : ¬ IntOp.SDivCorner v 8192#32 := by
    rintro (h1 | ⟨-, h1⟩) <;> exact absurd h1 (by decide)
  have hm := msb_of_small h
  simp only [Scalar.divsi, IntOp.divsi, if_neg hc]
  apply BitVec.eq_of_toNat_eq
  rw [BitVec.sdiv_eq]
  simp [hm, show (8192#32).msb = false by decide]
  omega

theorem fdiv_small {v : BitVec 32} (h : v.toNat < 32768) : fdiv v = BitVec.ofNat 32 (v.toNat / 8192) := by
  by_cases h0 : v = 0#32
  · subst h0; decide
  · rw [← divsi_small h]
    unfold fdiv
    rw [sgn_pos h h0, show sgn 8192#32 = 1#32 by decide]
    simp [Scalar.cmpi, IntOp.cmpi, Scalar.andi, IntOp.andi, Scalar.select]

/-- The word of the last row: as numbers, the larger of the end less one and the start. -/
theorem maxsi_small {a b : BitVec 32} (ha : a.toNat < 32768) (hb : b.toNat < 32768) :
    (Scalar.maxsi (Scalar.subi b 1#32) a).toNat = max (b.toNat - 1) a.toNat := by
  have hia : a.toInt = a.toNat := BitVec.toInt_eq_toNat_of_lt (by omega)
  by_cases h0 : b.toNat = 0
  · have : b = 0#32 := BitVec.eq_of_toNat_eq (by simpa using h0)
    subst this
    have h1 : a.slt 4294967295#32 = false := by
      simp [BitVec.slt, hia, show (4294967295#32).toInt = -1 by decide]
    rw [show Scalar.subi 0#32 1#32 = 4294967295#32 by decide]
    simp [Scalar.maxsi, IntOp.maxsi, h1]
  · have hs : (Scalar.subi b 1#32).toNat = b.toNat - 1 := by
      simp [Scalar.subi, IntOp.subi, BitVec.toNat_sub]; omega
    have hi : (Scalar.subi b 1#32).toInt = ((b.toNat - 1 : ℕ) : ℤ) := by
      rw [BitVec.toInt_eq_toNat_of_lt (by omega), hs]
    simp only [Scalar.maxsi, IntOp.maxsi, BitVec.slt, hi, hia]
    split <;> rename_i h <;> simp at h <;> omega

/-- The first block, and the last. -/
theorem blk_toNat {a : BitVec 32} (ha : a.toNat < 32768) {i : ℕ} (hi : i < 4) : (blk a i).toNat = a.toNat / 8192 + i := by
  simp [blk, fdiv_small ha, Scalar.addi, IntOp.addi, BitVec.toNat_add]; omega

theorem lastBlk_toNat {a b : BitVec 32} (ha : a.toNat < 32768) (hb : b.toNat < 32768) :
    (lastBlk a b).toNat = max (b.toNat - 1) a.toNat / 8192 := by
  have h : (Scalar.maxsi (Scalar.subi b 1#32) a).toNat < 32768 := by rw [maxsi_small ha hb]; omega
  rw [lastBlk, fdiv_small h, maxsi_small ha hb]; simp; omega

theorem live_iff {a b : BitVec 32} (ha : a.toNat < 32768) (hb : b.toNat < 32768) {i : ℕ} (hi : i < 4) :
    live a b i = 1#1 ↔ a.toNat / 8192 + i ≤ max (b.toNat - 1) a.toNat / 8192 := by
  have h1 := blk_toNat ha hi
  have h2 := lastBlk_toNat ha hb
  rw [← h1, ← h2]
  have e1 : (blk a i).toInt = (blk a i).toNat := BitVec.toInt_eq_toNat_of_lt (by omega)
  have e2 : (lastBlk a b).toInt = (lastBlk a b).toNat := BitVec.toInt_eq_toNat_of_lt (by omega)
  simp only [live, Scalar.cmpi, IntOp.cmpi, Scalar.extui, BitVec.sle, e1, e2]
  by_cases h : (blk a i).toNat ≤ (lastBlk a b).toNat <;> simp [h]

/-- The block a grid point fetches: its own, no later than the last. -/
theorem fetched_toNat {a b : BitVec 32} (ha : a.toNat < 32768) (hb : b.toNat < 32768) {i : ℕ} (hi : i < 4) :
    (Scalar.minsi (blk a i) (lastBlk a b)).toNat = min (a.toNat / 8192 + i) (max (b.toNat - 1) a.toNat / 8192) := by
  have h1 := blk_toNat ha hi
  have h2 := lastBlk_toNat ha hb
  rw [← h1, ← h2]
  have e1 : (blk a i).toInt = (blk a i).toNat := BitVec.toInt_eq_toNat_of_lt (by omega)
  have e2 : (lastBlk a b).toInt = (lastBlk a b).toNat := BitVec.toInt_eq_toNat_of_lt (by omega)
  simp only [Scalar.minsi, IntOp.minsi, BitVec.slt, e1, e2]
  split <;> rename_i h <;> simp at h <;> omega

/-- A table of 17 row numbers in increasing order. -/
structure Sorted (w : Fin 17 → BitVec 32) : Prop where
  lt : ∀ k, (w k).toNat < 32768
  mono : ∀ k : Fin 16, (w k.castSucc).toNat ≤ (w k.succ).toNat

theorem Sorted.monotone {w : Fin 17 → BitVec 32} (h : Sorted w) : Monotone fun k => (w k).toNat :=
  Fin.monotone_iff_le_succ.2 h.mono

end Cert.Words

end
-- ==== Proof.Pointers.lean ====
/- THE PRECONDITION READ BACK: what it says of the pointers, as natural numbers — every pointer is the number of a row, and
   the pointers increase. Over any float values: the precondition looks at the pointers only. -/
module

public import proofs.«01_k».proof.Proof.Words
public import proofs.«01_k».proof.Proof.Gen.Pre_sorted_pointers
public import Idealize.ShloMosaic.Lib.ReduceAll
public import Idealize.ShloMosaic.Lib.Affine
public import Idealize.ShloMosaic.Lib.Pipeline.Value
public import Idealize.ShloMosaic.Lib.ValueIdxCore

@[expose] public section

namespace Cert.Pointers

open Idealize.ShloMosaic Cert.Words Cert.Pre_sorted_pointers Cert.Pre_sorted_pointers.Gen

/-- A pointer table that meets the precondition is sorted and in range. -/
theorem sorted_of_pre {F : FTy → Type} [FloatOps F] (a0 : FVec F S32768x256 .f32) (a1 : IVec S17 32)
    (a2 : FVec F S256x256 .f32) (a3 : FVec F S256 .f32)
    (h : Cert.Pre_sorted_pointers.fn a0 a1 a2 a3 = fun _ => 1#1) : Sorted (fun k => a1 (ValueIdx.ix1 k)) := by
  have e := congrFun h (fun a => a.elim0)
  obtain ⟨e₁, eMono⟩ := IntOp.andi_eq_one.1 e
  obtain ⟨eLow, eHigh⟩ := IntOp.andi_eq_one.1 e₁
  haveI : Subsingleton S_.Idx := ⟨fun a b => funext fun i => i.elim0⟩
  have low : ∀ k : Fin 17, (0 : ℤ) ≤ (a1 (ValueIdx.ix1 k)).toInt := fun k => by
    have := Host.reduce_andi_all _ _ _ _ _ eLow (ValueIdx.ix1 k)
    have h0 := IntOp.cmpi_sge.1 this
    exact h0
  have high : ∀ k : Fin 17, (a1 (ValueIdx.ix1 k)).toInt < 32768 := fun k => by
    have := Host.reduce_andi_all _ _ _ _ _ eHigh (ValueIdx.ix1 k)
    exact IntOp.cmpi_slt.1 this
  have nat : ∀ k : Fin 17, (a1 (ValueIdx.ix1 k)).toInt = ((a1 (ValueIdx.ix1 k)).toNat : ℤ) := fun k => by
    have h0 := low k
    have hb := (a1 (ValueIdx.ix1 k)).isLt
    rw [BitVec.toInt_eq_toNat_cond] at h0 ⊢
    split at h0 <;> simp_all <;> omega
  refine ⟨fun k => by have := high k; rw [nat k] at this; exact_mod_cast this, fun k => ?_⟩
  have e := IntOp.cmpi_sle.1 (Host.reduce_andi_all _ _ _ _ _ eMono (ValueIdx.ix1 k))
  dsimp only at e
  rw [extractStridedSlice_apply ![0] a1 _ _ (ValueIdx.ix1 k.castSucc)
      (fun a => by fin_cases a; exact (Nat.zero_add _).symm),
    extractStridedSlice_apply ![1] a1 _ _ (ValueIdx.ix1 k.succ)
      (fun a => by fin_cases a; exact Nat.add_comm _ _), nat, nat] at e
  exact_mod_cast e

end Cert.Pointers
-- ==== Proof.Kernel.Body.lean ====
/- THE BODY OF THE KERNEL at the machine numbers: what one grid point leaves in the output buffer, for any table of pointers.
   Three cases: at the first point the buffer is set to zero and the block's rows are added (`kernelRun0_A`); at a later live
   point the rows are added to what the buffer held (`kernelRun0_C`); past the last block nothing is stored
   (`kernelRun0_B`). -/
module

public import proofs.«01_k».proof.Proof.Words
public import proofs.«01_k».proof.Proof.Gen.Kernel.Flash.Runs
public import Idealize.ShloMosaic.Lib.Pipeline.Value
public import Idealize.ShloMosaic.Lib.ValueIdxCore

@[expose] public section

set_option maxRecDepth 16384
set_option Elab.async false

noncomputable section

namespace Cert.Kernel.Table

open Cert.Kernel Cert.Kernel.Gen Cert.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- Word `k` of a table. -/
def wd (T : S17.Idx → BitVec 32) (k : Fin 17) : BitVec 32 := T (ValueIdx.ix1 k)

/-- What the body's load of word `k` reads. -/
theorem read_word (T : S17.Idx → BitVec 32) (k : ℕ) (hk : k < 17) (inb : ∀ a, (![k] : Fin 1 → ℕ) a + S1.size a ≤ S17.size a)
    (x : (Rect.unit (s := S17) ![k] S1.size inb).toLoadRect.shape.Idx) :
    View.readAt (Elt Bits) (tbM0_0).view (Rect.unit (s := S17) ![k] S1.size inb).toLoadRect T x = wd T ⟨k, hk⟩ := by
  show T _ = T _
  congr 1
  funext a
  fin_cases a
  apply Fin.ext
  have hx : (x 0).val = 0 := Nat.lt_one_iff.1 (x 0).isLt
  refine Eq.trans (b := k + 1 * (x 0).val) rfl ?_
  show k + 1 * (x 0).val = k
  omega

/-- The same, of the contents the load reads through the whole table. -/
theorem ld_word (T : S17.Idx → BitVec 32) (k : ℕ) (hk : k < 17) (inb : ∀ a, (![k] : Fin 1 → ℕ) a + S1.size a ≤ S17.size a)
    (x) :
    View.ld (View.read (Elt Bits) (tbM0_0).view T) (Rect.unit (s := S17) ![k] S1.size inb) x = wd T ⟨k, hk⟩ := read_word T k hk inb x

/-- What a live point leaves in the output buffer, from what it held: the rows of the point's block added segment by
    segment. -/
def stepV (T : S17.Idx → BitVec 32) (i : grid0.Coords) (x0 : S8192x256.Idx → Elt Bits .f32) (x1 : S256x256.Idx → Elt Bits .f32)
    (x2 : S256.Idx → Elt Bits .f32) (acc : S16x256.Idx → Elt Bits .f32) : S16x256.Idx → Elt Bits .f32 :=
  k0_pay2 (blk (wd T 0) (i 0).val) (k0_pay3 x0 x1 x2)
    (k0_pay11 (F := Bits) (wd T 7) (wd T 8) (wd T 9) (wd T 10) (wd T 11) (wd T 12) (wd T 13) (wd T 14) (wd T 15)
      (k0_pay4 (F := Bits) (wd T 0)) (k0_pay5 (F := Bits) (wd T 1)) (k0_pay6 (F := Bits) (wd T 2)) (k0_pay7 (F := Bits) (wd T 3))
      (k0_pay8 (F := Bits) (wd T 4)) (k0_pay9 (F := Bits) (wd T 5)) (k0_pay10 (F := Bits) (wd T 6)))
    (k0_pay12 (F := Bits) (wd T 1) (wd T 2) (wd T 3) (wd T 4) (wd T 5) (wd T 6) (wd T 7) (wd T 8) (wd T 9) (wd T 10) (wd T 11)
      (wd T 12) (wd T 13) (wd T 14) (wd T 15) (wd T 16)) acc

set_option backward.proofsInPublic true in
set_option maxHeartbeats 8000000 in
/-- A LATER LIVE POINT: from the inputs at their blocks, the table and the output buffer at `y3`, the body runs to the buffer
    with its pieces written over `y3`. -/
noncomputable def kernelRun0_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Bits .i32))
     (x0 : (S8192x256.Idx → Elt Bits .f32)) (x1 : (S256x256.Idx → Elt Bits .f32)) (x2 : (S256.Idx → Elt Bits .f32)) (y3 : (S16x256.Idx → Elt Bits .f32)) (k0_h1 : ¬(k0_cond1 i = 1#1)) (k0_h2 : k0_cond2 i (View.readAt (Elt Bits) (tbM0_0).view (Rect.unit (s := S17) ![0] S1.size inb_S17_S1_0).toLoadRect T0 (Shape.Idx.first (numel1_S1.symm ▸ Nat.one_pos))) (View.readAt (Elt Bits) (tbM0_0).view (Rect.unit (s := S17) ![16] S1.size inb_S17_S1_16).toLoadRect T0 (Shape.Idx.first (numel1_S1.symm ▸ Nat.one_pos))) (View.readAt (Elt Bits) (tbM0_0).view (Rect.unit (s := S17) ![0] S1.size inb_S17_S1_0).toLoadRect T0 (Shape.Idx.first (numel1_S1.symm ▸ Nat.one_pos))) = 1#1) :
    { out0 : List (View.Piece (Elt Bits) S16x256 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (tbM0_0.view.loc (c : Thread nD τ) ↦{fullShare.right} T0)
          ∗ owns (c : Thread nD τ) arg5 fullShare y3
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0__body i tbM0_0 (Memref.isWhole_whole _) arg2 harg2 arg3 harg3 arg4 harg4 arg5 harg5) K } :=
  ⟨_, fun K => by
    unfold owns
    rw [cc0__body_eq_skeleton]; unfold cc0__body_skel
    iintro ⟨H0, H1, H2, HT0, ⟨%f3, %hf3, HO3⟩, Hk⟩
    obtain rfl := harg5.eq_unread hf3
    have hT0 : tbM0_0.IsWhole := Memref.isWhole_whole _
    sl_exec! (disch := first | (guard_target = ¬(k0_cond1 _ = _); exact k0_h1) | (guard_target = k0_cond2 _ _ _ _ = _; exact k0_h2))
    sl_step
    iapply Hk
    isplitl [H0]; · iexact H0
    isplitl [H1]; · iexact H1
    isplitl [H2]; · iexact H2
    isplitl [HT0]; · iexact HT0
    iexists _; iexact HO3⟩

/-- A later live point's pieces cover the output buffer. -/
theorem cover_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Bits .i32))
     (x0 : (S8192x256.Idx → Elt Bits .f32)) (x1 : (S256x256.Idx → Elt Bits .f32)) (x2 : (S256.Idx → Elt Bits .f32)) (y3 : (S16x256.Idx → Elt Bits .f32)) (k0_h1 k0_h2) (y : S16x256.Idx) :
    ∃ pc ∈ (kernelRun0_C c i arg2 harg2 arg3 harg3 arg4 harg4 arg5 harg5 T0 x0 x1 x2 y3 k0_h1 k0_h2).1, y ∈ pc.1.set :=
  View.cover_of_tiledL (kernelRun0_C c i arg2 harg2 arg3 harg3 arg4 harg4 arg5 harg5 T0 x0 x1 x2 y3 k0_h1 k0_h2).1 S16x256.size (by sl_kernel_rfl) y

/-- A later live point's pieces leave the point's step on what the buffer held. -/
theorem out_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Bits .i32))
     (x0 : (S8192x256.Idx → Elt Bits .f32)) (x1 : (S256x256.Idx → Elt Bits .f32)) (x2 : (S256.Idx → Elt Bits .f32)) (y3 : (S16x256.Idx → Elt Bits .f32)) (k0_h1 k0_h2) :
    View.canon (kernelRun0_C c i arg2 harg2 arg3 harg3 arg4 harg4 arg5 harg5 T0 x0 x1 x2 y3 k0_h1 k0_h2).1 = stepV T0 i x0 x1 x2 y3 := by
  unfold kernelRun0_C
  sl_unfold_words
  dsimp only
  rw [View.canon_cons_unit_zero (S := S16x256) hz2]
  unfold stepV k0_pay11 k0_pay12 k0_pay10 k0_pay9 k0_pay8 k0_pay7 k0_pay6 k0_pay5 k0_pay4
  dsimp only
  simp only [read_word T0 0 (by decide)]
  simp only [View.readAt_eq_ld, View.read_rep, harg5.read_unread, View.ld_unit_zero (S := S16x256) hz2,
    View.ld_unit_zero (S := S8192x256) hz2, View.ld_unit_zero (S := S256x256) hz2, View.ld_unit_zero (S := S256) hz1, View.readCov_unit_zero (S := S16x256) _ hz2]
  congr 1
  · repeat' first
      | exact congrArg (broadcast S1) (ld_word T0 _ (by decide) _ _)
      | congr 1
  · repeat' first
      | exact congrArg (broadcast S1) (ld_word T0 _ (by decide) _ _)
      | congr 1

/-- The first point's pieces leave the point's step on zeros. -/
theorem out_A (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Bits .i32))
     (x0 : (S8192x256.Idx → Elt Bits .f32)) (x1 : (S256x256.Idx → Elt Bits .f32)) (x2 : (S256.Idx → Elt Bits .f32)) (k0_h1 k0_h2) :
    View.canon (kernelRun0_A c i arg2 harg2 arg3 harg3 arg4 harg4 arg5 harg5 T0 x0 x1 x2 k0_h1 k0_h2).1 = stepV T0 i x0 x1 x2 (k0_pay1 (F := Bits)) := by
  unfold kernelRun0_A
  sl_unfold_words
  dsimp only
  rw [View.canon_cons_unit_zero (S := S16x256) hz2]
  unfold stepV k0_pay11 k0_pay12 k0_pay10 k0_pay9 k0_pay8 k0_pay7 k0_pay6 k0_pay5 k0_pay4
  dsimp only
  simp only [read_word T0 0 (by decide)]
  simp only [View.readAt_eq_ld, View.read_rep, harg5.read_unread, View.ld_unit_zero (S := S16x256) hz2,
    View.ld_unit_zero (S := S8192x256) hz2, View.ld_unit_zero (S := S256x256) hz2, View.ld_unit_zero (S := S256) hz1, View.readCov_unit_zero (S := S16x256) _ hz2]
  congr 1
  · repeat' first
      | exact congrArg (broadcast S1) (ld_word T0 _ (by decide) _ _)
      | congr 1
  · repeat' first
      | exact congrArg (broadcast S1) (ld_word T0 _ (by decide) _ _)
      | congr 1

end Cert.Kernel.Table

end
-- ==== Proof.Kernel.Run.lean ====
/- THE KERNEL'S RUN at the machine numbers for EVERY table of pointers the precondition allows: the pipeline at the table, the
   decisions at each point, what the output buffer holds point by point, the body's obligation, the launch, and the frame.
   The set-up of the launch follows the generated certificate's; the decisions are proved from the table's order
   (Words.lean), not decided at one table. -/
module

public import proofs.«01_k».proof.Proof.Kernel.Body
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Table

open Cert.Kernel Cert.Kernel.Gen Cert.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's resource algebra, embedded whole. -/
abbrev EP : Emb (UR sig nD τ) 𝕄 := emb₁

/-! ## The pipeline at a table -/

section table
variable (T : S17.Idx → BitVec 32)

/-- The tables' contents: the one table, at `T`. -/
def pfT : pre0.Contents (Elt Bits) := fun | ⟨0, _⟩ => T | ⟨_ + 1, h⟩ => absurd h (by simp)

/-- What an index map reads of word `k`. -/
theorem at_word (k : ℕ) (hk : k < 17) (inb : ∀ a, (![k] : Fin 1 → ℕ) a + S1.size a ≤ S17.size a) :
    (pfT T).at 0 (Rect.unit (s := S17) ![k] S1.size inb) numel1_S1 = wd T ⟨k, hk⟩ :=
  read_word T k hk inb _

/-- The word the idle table reads at offset `k`. -/
theorem atD_word (k : ℕ) (hk : k < 17) : (pfT T).atD 0 ![k] = wd T ⟨k, hk⟩ := by
  have hk' : ∀ a, (![k] : Fin 1 → ℕ) a + 1 ≤ S17.size a := by intro a; fin_cases a; exact hk
  refine (dif_pos hk').trans (congrArg T ?_)
  funext a; fin_cases a; rfl

/-- The block of rows window 0 fetches at a point. -/
theorem transform_word (i : grid0.Coords) :
    cc0_transform_0 (F := Bits) inb_S17_S1_0 numel1_S1 inb_S17_S1_16 (pfT T) i
      = ![(Scalar.minsi (blk (wd T 0) (i 0).val) (lastBlk (wd T 0) (wd T 16))).toNat, 0] := by
  have h0 : wd T 0 = _ := (at_word T 0 (by decide) inb_S17_S1_0).symm
  have h16 : wd T 16 = _ := (at_word T 16 (by decide) inb_S17_S1_16).symm
  rw [h0, h16]
  rfl

theorem coord_lt (i : grid0.Coords) : (i 0).val < 4 := (i 0).isLt

/-- At a sorted table every block the pipeline fetches lies inside its array. -/
theorem ok_table (hT : Sorted (wd T)) : ok0 (F := Bits) (pfT T) := by
  intro i
  refine ⟨?_, .inl rfl⟩
  rw [transform_word, fetched_toNat (hT.lt 0) (hT.lt 16) (coord_lt i)]
  have h0 := hT.lt 0
  have h16 := hT.lt 16
  intro a
  fin_cases a <;> simp [Matrix.cons_val_zero] <;> omega

end table

variable (T : S17.Idx → BitVec 32) (hT : Sorted (wd T))

/-- The admissible contents, the pipeline at them, as @main's one. -/
def adm : (pcfg0 (F := Bits)).Adm := ⟨pfT T, ok_table T hT⟩
abbrev cfgA : Pipeline.Cfg sig Λ₀ := cfg0 (F := Bits) (adm T hT)
abbrev pcs : Fin 1 → Pipeline.Cfg sig Λ₀ := Pipeline.pin (pcfgs (F := Bits)) fun _ => adm T hT

variable (m : (ℓ : Loc nD τ sig) → Buf (Elt Bits) ℓ) (ρ : Dev nD → PrngReg)

/-- The launch memory's table is `T`, on every device. -/
def Pinned : Prop := ∀ c : Dev nD, m ((c : Thread nD τ).loc main_arg1) = T

/-- Point `t`'s coordinates. -/
abbrev crd (t : Fin (cfgA T hT).N) : (cfgA T hT).grid.Coords := (cfgA T hT).grid.coords t

/-- Each window's current staging memref at point `t`, spelled as the pipeline passes it, and its wholeness. -/
abbrev ms0_0 (t : Fin (cfgA T hT).N) : Memref sig .tc .vmem S8192x256 .f32 := spec0_0.stage ((cfgA T hT).slots t (0 : Fin 4))
abbrev hs0_0 (t : Fin (cfgA T hT).N) : (ms0_0 T hT t).IsWhole := hstage0_0 (((cfgA T hT).slots t (0 : Fin 4)).cast nbuf0_0)
abbrev ms0_1 (t : Fin (cfgA T hT).N) : Memref sig .tc .vmem S256x256 .f32 := spec0_1.stage ((cfgA T hT).slots t (1 : Fin 4))
abbrev hs0_1 (t : Fin (cfgA T hT).N) : (ms0_1 T hT t).IsWhole := hstage0_1 (((cfgA T hT).slots t (1 : Fin 4)).cast nbuf0_1)
abbrev ms0_2 (t : Fin (cfgA T hT).N) : Memref sig .tc .vmem S256 .f32 := spec0_2.stage ((cfgA T hT).slots t (2 : Fin 4))
abbrev hs0_2 (t : Fin (cfgA T hT).N) : (ms0_2 T hT t).IsWhole := hstage0_2 (((cfgA T hT).slots t (2 : Fin 4)).cast nbuf0_2)
abbrev ms0_3 (t : Fin (cfgA T hT).N) : Memref sig .tc .vmem S16x256 .f32 := spec0_3.stage ((cfgA T hT).slots t (3 : Fin 4))
abbrev hs0_3 (t : Fin (cfgA T hT).N) : (ms0_3 T hT t).IsWhole := hstage0_3 (((cfgA T hT).slots t (3 : Fin 4)).cast nbuf0_3)

/-! ## The windows' blocks -/

/-- Window `w`'s block at point `t`, read off its array at launch. -/
def iblk (c : Dev nD) (w : Fin (cfgA T hT).W) (t : Fin (cfgA T hT).N) : (((cfgA T hT).win w).xblock (crd T hT t)).Idx → Elt Bits ((cfgA T hT).win w).elt :=
  (((cfgA T hT).win w).blk t).view.read (Elt Bits) ((s₀ m ρ).mem (((cfgA T hT).win w).arr.view.loc (c : Thread nD τ)))

/-! ## The decisions at a point -/

/-- The first point. -/
abbrev P0_0 (t : Fin (cfgA T hT).N) : Prop := k0_cond1 (crd T hT t) = 1#1
/-- A point whose block is at most the last. -/
abbrev P0_1 (t : Fin (cfgA T hT).N) : Prop := live (wd T 0) (wd T 16) ((crd T hT t) 0).val = 1#1

theorem crd_val (t : Fin (cfgA T hT).N) : ((crd T hT t) 0).val = t.val := by
  have h : ∀ t : Fin grid0.N, ((grid0.coords t) 0).val = t.val := by decide
  exact h t

theorem first_iff (t : Fin (cfgA T hT).N) : P0_0 T hT t ↔ t.val = 0 := by
  have h : ∀ t : Fin grid0.N, k0_cond1 (grid0.coords t) = 1#1 ↔ t.val = 0 := by decide
  exact h t

theorem live_first (t : Fin (cfgA T hT).N) (q0 : P0_0 T hT t) : P0_1 T hT t := by
  have h : ((crd T hT t) 0).val = 0 := (crd_val T hT t).trans ((first_iff T hT t).1 q0)
  show live _ _ _ = 1#1
  rw [h, live_iff (hT.lt 0) (hT.lt 16) (by decide)]
  exact Nat.div_le_div_right (le_max_right _ _)

/-- The second decision over the words the body reads. -/
theorem cond2_words (i : grid0.Coords) :
    k0_cond2 i (View.readAt (Elt Bits) (tbM0_0).view (Rect.unit (s := S17) ![0] S1.size inb_S17_S1_0).toLoadRect T (Shape.Idx.first (numel1_S1.symm ▸ Nat.one_pos))) (View.readAt (Elt Bits) (tbM0_0).view (Rect.unit (s := S17) ![16] S1.size inb_S17_S1_16).toLoadRect T (Shape.Idx.first (numel1_S1.symm ▸ Nat.one_pos))) (View.readAt (Elt Bits) (tbM0_0).view (Rect.unit (s := S17) ![0] S1.size inb_S17_S1_0).toLoadRect T (Shape.Idx.first (numel1_S1.symm ▸ Nat.one_pos)))
      = live (wd T 0) (wd T 16) (i 0).val := by
  rw [read_word T 0 (by decide), read_word T 16 (by decide)]; rfl

/-- The output window is idle at a point exactly when neither decision holds. -/
theorem idle_eq (t : Fin (cfgA T hT).N) :
    (cfgA T hT).idle (3 : Fin 4) ((cfgA T hT).grid.coords t)
      = (!(k0_cond1 (crd T hT t) == 1#1) && !(live (wd T 0) (wd T 16) ((crd T hT t) 0).val == 1#1)) := by
  show (!(k0_cond1 (crd T hT t) == 1#1) && !(k0_cond2 (crd T hT t) ((pfT T).atD 0 ![0]) ((pfT T).atD 0 ![16]) ((pfT T).atD 0 ![0]) == 1#1)) = _
  rw [atD_word T 0 (by decide), atD_word T 16 (by decide)]; rfl

/-- The output is written back at the last point only. -/
theorem flush_eq (t : Fin (cfgA T hT).N) : ((cfgA T hT).win (3 : Fin 4)).flush t = decide (t.val = 3) := by
  rcases fin_N0 t with h | h | h | h <;> subst h <;> rfl

/-- Whether the output buffer holds junk before position `n`: before the first point, and after the write-back. -/
def frTab0_3 (n : ℕ) : Bool := n == 0 || n == 4

theorem frTab0_3_step (t : Fin (cfgA T hT).N) :
    frTab0_3 (t.val + 1) = (((cfgA T hT).win (3 : Fin 4)).flush t || ((cfgA T hT).idle (3 : Fin 4) ((cfgA T hT).grid.coords t) && frTab0_3 t.val)) := by
  rw [flush_eq, idle_eq]
  have h0 := first_iff T hT t
  by_cases q0 : P0_0 T hT t
  · rw [h0.1 q0, show (k0_cond1 (crd T hT t) == 1#1) = true from by simpa using q0]; rfl
  · have hn : t.val ≠ 0 := fun h => q0 (h0.2 h)
    have ht : t.val < 4 := t.isLt
    have hf : frTab0_3 t.val = false := by simp [frTab0_3]; omega
    rw [hf, Bool.and_false, Bool.or_false]
    by_cases h3 : t.val = 3 <;> simp [frTab0_3, h3]

theorem freshF0_3 (t : Fin (cfgA T hT).N) : (cfgA T hT).fresh (3 : Fin 4) t.val = frTab0_3 t.val :=
  Pipeline.Cfg.fresh_tab (cfgA T hT) (3 : Fin 4) frTab0_3 rfl (frTab0_3_step T hT) t.val (Nat.le_of_lt t.isLt)

theorem fresh_later (t : Fin (cfgA T hT).N) (q0 : ¬P0_0 T hT t) : (cfgA T hT).fresh (3 : Fin 4) t.val = false := by
  have hn : t.val ≠ 0 := fun h => q0 ((first_iff T hT t).2 h)
  have ht : t.val < 4 := t.isLt
  rw [freshF0_3]; simp [frTab0_3]; omega

/-- The first point: the schedule. -/
theorem sched0_A (t : Fin (cfgA T hT).N) (q0 : P0_0 T hT t) :
    (cfgA T hT).idle (3 : Fin 4) ((cfgA T hT).grid.coords t) = false ∧ ((cfgA T hT).win (3 : Fin 4)).flush t = false ∧ (cfgA T hT).fresh (3 : Fin 4) t.val = true := by
  have h0 := (first_iff T hT t).1 q0
  refine ⟨?_, ?_, ?_⟩
  · rw [idle_eq, show (k0_cond1 (crd T hT t) == 1#1) = true from by simpa using q0]; rfl
  · rw [flush_eq, h0]; rfl
  · rw [freshF0_3, h0]; rfl

/-- A later live point. -/
theorem sched0_C (t : Fin (cfgA T hT).N) (q0 : ¬P0_0 T hT t) (q1 : P0_1 T hT t) :
    (cfgA T hT).idle (3 : Fin 4) ((cfgA T hT).grid.coords t) = false ∧ (cfgA T hT).fresh (3 : Fin 4) t.val = false := by
  refine ⟨?_, fresh_later T hT t q0⟩
  rw [idle_eq, show (live (wd T 0) (wd T 16) ((crd T hT t) 0).val == 1#1) = true from by simpa using q1]; simp

/-- A point past the last block. -/
theorem sched0_B (t : Fin (cfgA T hT).N) (q0 : ¬P0_0 T hT t) (q1 : ¬P0_1 T hT t) :
    (cfgA T hT).idle (3 : Fin 4) ((cfgA T hT).grid.coords t) = true ∧ (cfgA T hT).fresh (3 : Fin 4) t.val = false := by
  refine ⟨?_, fresh_later T hT t q0⟩
  rw [idle_eq]; simp [q0, q1]

/-! ## What the output buffer holds after each point -/

/-- One step: what the output buffer holds after point `t`, from what it held before. -/
def step0 (c : Dev nD) (t : Fin (cfgA T hT).N) (prev : (S16x256.Idx → Elt Bits .f32)) : (S16x256.Idx → Elt Bits .f32) :=
  if P0_0 T hT t then
    stepV T (crd T hT t) (iblk T hT m ρ c (0 : Fin 4) t) (iblk T hT m ρ c (1 : Fin 4) t) (iblk T hT m ρ c (2 : Fin 4) t) (k0_pay1 (F := Bits))
  else if P0_1 T hT t then
    stepV T (crd T hT t) (iblk T hT m ρ c (0 : Fin 4) t) (iblk T hT m ρ c (1 : Fin 4) t) (iblk T hT m ρ c (2 : Fin 4) t) prev
  else prev

/-- THE TRAJECTORY: after position `n`. -/
def traj0 (c : Dev nD) : (n : ℕ) → n < (cfgA T hT).N → (S16x256.Idx → Elt Bits .f32)
  | 0, h => step0 T hT m ρ c ⟨0, h⟩ default
  | n + 1, h => step0 T hT m ρ c ⟨n + 1, h⟩ (traj0 c n (Nat.lt_of_succ_lt h))

/-- What they held BEFORE point `t` (junk before the first). -/
def prev0 (c : Dev nD) (t : Fin (cfgA T hT).N) : (S16x256.Idx → Elt Bits .f32) :=
  if h : t.val = 0 then default else traj0 T hT m ρ c (t.val - 1) (by omega)

theorem traj0_eq (c : Dev nD) (t : Fin (cfgA T hT).N) : traj0 T hT m ρ c t.val t.isLt = step0 T hT m ρ c t (prev0 T hT m ρ c t) := by
  obtain ⟨n, hn⟩ := t
  cases n with
  | zero => rfl
  | succ n => unfold prev0; simp only [Nat.add_one_ne_zero, dif_neg, not_false_eq_true]; rfl

/-- The step at the first point. -/
theorem step0_A (c : Dev nD) (t : Fin (cfgA T hT).N) (prev : (S16x256.Idx → Elt Bits .f32)) (q0 : P0_0 T hT t) :
    step0 T hT m ρ c t prev = stepV T (crd T hT t) (iblk T hT m ρ c (0 : Fin 4) t) (iblk T hT m ρ c (1 : Fin 4) t) (iblk T hT m ρ c (2 : Fin 4) t) (k0_pay1 (F := Bits)) := by
  unfold step0; rw [if_pos q0]

/-- The step at a later live point. -/
theorem step0_C (c : Dev nD) (t : Fin (cfgA T hT).N) (prev : (S16x256.Idx → Elt Bits .f32)) (q0 : ¬P0_0 T hT t) (q1 : P0_1 T hT t) :
    step0 T hT m ρ c t prev = stepV T (crd T hT t) (iblk T hT m ρ c (0 : Fin 4) t) (iblk T hT m ρ c (1 : Fin 4) t) (iblk T hT m ρ c (2 : Fin 4) t) prev := by
  unfold step0; rw [if_neg q0, if_pos q1]

/-- The step at a point past the last block. -/
theorem step0_B (c : Dev nD) (t : Fin (cfgA T hT).N) (prev : (S16x256.Idx → Elt Bits .f32)) (q0 : ¬P0_0 T hT t) (q1 : ¬P0_1 T hT t) :
    step0 T hT m ρ c t prev = prev := by
  unfold step0; rw [if_neg q0, if_neg q1]

/-! ## The pipeline's proof data -/

/-- What the tracked buffers held before position `t` of `Fin (N+1)` (the invariant's index). -/
def prev0T (c : Dev nD) (t : Fin ((cfgA T hT).N + 1)) : (S16x256.Idx → Elt Bits .f32) :=
  if h : t.val = 0 then default else traj0 T hT m ρ c (t.val - 1) (by omega)

theorem prev0T_castSucc (c : Dev nD) (t : Fin (cfgA T hT).N) : prev0T T hT m ρ c t.castSucc = prev0 T hT m ρ c t := by
  unfold prev0T prev0; simp only [Fin.val_castSucc]
theorem prev0T_succ (c : Dev nD) (t : Fin (cfgA T hT).N) : prev0T T hT m ρ c t.succ = traj0 T hT m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA T hT).N + 1)) : sProp 𝕄 :=
  iprop((tbM0_0.view.loc (c : Thread nD τ) ↦{fullShare.right} T))

/-- The proof data of the one pipeline on core `c`. -/
def dats (_ : Fin 1) (c : Dev nD) : Dat τ (Elt Bits) Unit ℕ (UR sig nD τ) ℕ (cfgA T hT) c where
  A w := (s₀ m ρ).mem (((cfgA T hT).win w).arr.view.loc (c : Thread nD τ))
  after w t := match w with
    | ⟨0, _⟩ => iblk T hT m ρ c (0 : Fin 4) t
    | ⟨1, _⟩ => iblk T hT m ρ c (1 : Fin 4) t
    | ⟨2, _⟩ => iblk T hT m ρ c (2 : Fin 4) t
    | ⟨3, _⟩ => (traj0 T hT m ρ c t.val t.isLt)
  Φ t := Phi T hT m ρ c t
  q _ := fullShare
  owed _ := 0

theorem after0_0 (c : Dev nD) (t : Fin (cfgA T hT).N) : (dats T hT m ρ 0 c).after (0 : Fin 4) t = iblk T hT m ρ c (0 : Fin 4) t := rfl
theorem after0_1 (c : Dev nD) (t : Fin (cfgA T hT).N) : (dats T hT m ρ 0 c).after (1 : Fin 4) t = iblk T hT m ρ c (1 : Fin 4) t := rfl
theorem after0_2 (c : Dev nD) (t : Fin (cfgA T hT).N) : (dats T hT m ρ 0 c).after (2 : Fin 4) t = iblk T hT m ρ c (2 : Fin 4) t := rfl
theorem after0_3 (c : Dev nD) (t : Fin (cfgA T hT).N) : (dats T hT m ρ 0 c).after (3 : Fin 4) t = (traj0 T hT m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA T hT).N) (d) : (dats T hT m ρ 0 c).before (0 : Fin 4) t d = iblk T hT m ρ c (0 : Fin 4) t :=
  ((dats T hT m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T hT).N) (d) : (dats T hT m ρ 0 c).before (1 : Fin 4) t d = iblk T hT m ρ c (1 : Fin 4) t :=
  ((dats T hT m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T hT).N) (d) : (dats T hT m ρ 0 c).before (2 : Fin 4) t d = iblk T hT m ρ c (2 : Fin 4) t :=
  ((dats T hT m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T hT).N) (ht : t.val ≠ 0), (cfgA T hT).idle (3 : Fin 4) ((cfgA T hT).grid.coords t) = true → (cfgA T hT).fresh (3 : Fin 4) t.val = false →
    (dats T hT m ρ 0 c).after (3 : Fin 4) t = (dats T hT m ρ 0 c).after (3 : Fin 4) ⟨t.val - 1, by omega⟩ := by
  intro t ht hi hf
  rw [after0_3, after0_3, traj0_eq]
  by_cases q0 : P0_0 T hT t
  · obtain ⟨i3, -, -⟩ := sched0_A T hT t q0
    rw [i3] at hi; exact absurd hi (by decide)
  · by_cases q1 : P0_1 T hT t
    · obtain ⟨i3, -⟩ := sched0_C T hT t q0 q1
      rw [i3] at hi; exact absurd hi (by decide)
    · rw [step0_B T hT m ρ c t _ q0 q1]
      unfold prev0; rw [dif_neg ht]

/-- Output window 3 holds, when the body runs at `t`: junk if nothing was stored since its last write-back (`Cfg.fresh`),
    else what the point before left (TableIdle.lean `Dat.before_out_traj`). -/
theorem before0_3 (c : Dev nD) (t : Fin (cfgA T hT).N) (d) :
    (dats T hT m ρ 0 c).before (3 : Fin 4) t d = if (cfgA T hT).fresh (3 : Fin 4) t.val then d else (prev0 T hT m ρ c t) := by
  rw [(dats T hT m ρ 0 c).before_out_traj (3 : Fin 4) rfl (fun _ _ => rfl) (hcarry0_3 T hT m ρ c) t.val t rfl d]
  by_cases hf : (cfgA T hT).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T hT).N) : Prog (TpuEff nD τ sig (Elt Bits) Λ₀ .tc) PUnit :=
  cc0__body (crd T hT t) (Memref.whole main_arg1) (Memref.isWhole_whole _) (ms0_0 T hT t) (hs0_0 T hT t) (ms0_1 T hT t) (hs0_1 T hT t) (ms0_2 T hT t) (hs0_2 T hT t) (ms0_3 T hT t) (hs0_3 T hT t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T hT).N) :
    iprop((dats T hT m ρ 0 c).Φ t.castSucc ∗ (dats T hT m ρ 0 c).owesAt () t.castSucc
        ∗ (∃ d, owns (c : Thread nD τ) (ms0_0 T hT t) fullShare ((dats T hT m ρ 0 c).before (0 : Fin 4) t d))
        ∗ (∃ d, owns (c : Thread nD τ) (ms0_1 T hT t) fullShare ((dats T hT m ρ 0 c).before (1 : Fin 4) t d))
        ∗ (∃ d, owns (c : Thread nD τ) (ms0_2 T hT t) fullShare ((dats T hT m ρ 0 c).before (2 : Fin 4) t d))
        ∗ (∃ d, owns (c : Thread nD τ) (ms0_3 T hT t) fullShare ((dats T hT m ρ 0 c).before (3 : Fin 4) t d)))
      ⊢ wp frame (wpE (defs₀ (F := Bits)) Variants.none c none) Set.univ (bodyAt0 T hT t) fun _ =>
          iprop((dats T hT m ρ 0 c).Φ t.succ ∗ (dats T hT m ρ 0 c).owesAt () t.succ
            ∗ bigSep Finset.univ fun w : Fin (cfgA T hT).W =>
                match (cfgA T hT).idle w ((cfgA T hT).grid.coords t) with
                | true =>
                  match ((cfgA T hT).win w).flush t with
                  | false => iprop(∃ d, owns (c : Thread nD τ) (((cfgA T hT).win w).stage ((cfgA T hT).slots t w)) fullShare ((dats T hT m ρ 0 c).before w t d))
                  | true => owns (c : Thread nD τ) (((cfgA T hT).win w).stage ((cfgA T hT).slots t w)) fullShare ((dats T hT m ρ 0 c).after w t)
                | false => owns (c : Thread nD τ) (((cfgA T hT).win w).stage ((cfgA T hT).slots t w)) fullShare ((dats T hT m ρ 0 c).after w t)) := by
  rw [bigSep_W0]
  by_cases q0 : P0_0 T hT t
  · obtain ⟨i3, f3, fr3⟩ := sched0_A T hT t q0
    have k0_h1 := q0
    have k0_h2 := (cond2_words T (crd T hT t)).trans (live_first T hT t q0)
    rewrite [i3]
    simp only [before0_0, before0_1, before0_2, before0_3, after0_0, after0_1, after0_2, after0_3, f3]
    simp only [fr3, Bool.false_eq_true, ↓reduceIte]
    rewrite [show (dats T hT m ρ 0 c).Φ t.succ = Phi T hT m ρ c t.succ from rfl, show (dats T hT m ρ 0 c).Φ t.castSucc = Phi T hT m ρ c t.castSucc from rfl,
      show (dats T hT m ρ 0 c).owesAt () t.succ = (dats T hT m ρ 0 c).owesAt () t.castSucc from rfl]
    try rewrite [traj0_eq, step0_A T hT m ρ c t _ q0]
    unfold Phi; simp only [prev0T_castSucc, prev0T_succ, traj0_eq, step0_A T hT m ρ c t _ q0, Fin.val_castSucc, Fin.val_succ]
    iintro ⟨⟨HT0⟩, Ho, ⟨%d0, H0⟩, ⟨%d1, H1⟩, ⟨%d2, H2⟩, ⟨%d3, H3⟩⟩
    iapply ((kernelRun0_A c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_eq_canon _ _ _ (cover0_A_3 c _ _ _ _ _ _ _ _ _ _ _ _ _ k0_h1 k0_h2)).trans (out_A c _ _ _ _ _ _ _ _ _ _ _ _ _ k0_h1 k0_h2)
  · by_cases q1 : P0_1 T hT t
    · obtain ⟨i3, fr3⟩ := sched0_C T hT t q0 q1
      have k0_h1 := q0
      have k0_h2 := (cond2_words T (crd T hT t)).trans q1
      rewrite [i3]
      simp only [before0_0, before0_1, before0_2, before0_3, after0_0, after0_1, after0_2, after0_3]
      simp only [fr3, Bool.false_eq_true, ↓reduceIte]
      rewrite [show (dats T hT m ρ 0 c).Φ t.succ = Phi T hT m ρ c t.succ from rfl, show (dats T hT m ρ 0 c).Φ t.castSucc = Phi T hT m ρ c t.castSucc from rfl,
        show (dats T hT m ρ 0 c).owesAt () t.succ = (dats T hT m ρ 0 c).owesAt () t.castSucc from rfl]
      try rewrite [traj0_eq, step0_C T hT m ρ c t _ q0 q1]
      unfold Phi; simp only [prev0T_castSucc, prev0T_succ, traj0_eq, step0_C T hT m ρ c t _ q0 q1, Fin.val_castSucc, Fin.val_succ]
      iintro ⟨⟨HT0⟩, Ho, ⟨%d0, H0⟩, ⟨%d1, H1⟩, ⟨%d2, H2⟩, ⟨%d3, H3⟩⟩
      iapply ((kernelRun0_C c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) (prev0 T hT m ρ c t) k0_h1 k0_h2).2 _)
      isplitl [H0]; · iapply rep_of_owns; iexact H0
      isplitl [H1]; · iapply rep_of_owns; iexact H1
      isplitl [H2]; · iapply rep_of_owns; iexact H2
      isplitl [HT0]; · iexact HT0
      isplitl [H3]; · iexact H3
      iintro ⟨H0, H1, H2, HT0, ⟨%e3, H3⟩⟩
      isplitl [HT0]
      · iexact HT0
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_eq_canon _ _ _ (cover_C c _ _ _ _ _ _ _ _ _ _ _ _ _ _ k0_h1 k0_h2)).trans (out_C c _ _ _ _ _ _ _ _ _ _ _ _ _ _ k0_h1 k0_h2)
    · obtain ⟨i3, fr3⟩ := sched0_B T hT t q0 q1
      have k0_h1 := q0
      have k0_h2 := fun h => q1 ((cond2_words T (crd T hT t)).symm.trans h)
      cases f3 : ((cfgA T hT).win (3 : Fin 4)).flush t
      · rewrite [i3]
        simp only [before0_0, before0_1, before0_2, before0_3, after0_0, after0_1, after0_2, after0_3, f3]
        simp only [fr3, Bool.false_eq_true, ↓reduceIte]
        rewrite [show (dats T hT m ρ 0 c).Φ t.succ = Phi T hT m ρ c t.succ from rfl, show (dats T hT m ρ 0 c).Φ t.castSucc = Phi T hT m ρ c t.castSucc from rfl,
          show (dats T hT m ρ 0 c).owesAt () t.succ = (dats T hT m ρ 0 c).owesAt () t.castSucc from rfl]
        try rewrite [traj0_eq, step0_B T hT m ρ c t _ q0 q1]
        unfold Phi; simp only [prev0T_castSucc, prev0T_succ, traj0_eq, step0_B T hT m ρ c t _ q0 q1, Fin.val_castSucc, Fin.val_succ]
        iintro ⟨⟨HT0⟩, Ho, ⟨%d0, H0⟩, ⟨%d1, H1⟩, ⟨%d2, H2⟩, ⟨%d3, H3⟩⟩
        iapply ((kernelRun0_B c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _ _)
        isplitl [H0]; · iapply rep_of_owns; iexact H0
        isplitl [H1]; · iapply rep_of_owns; iexact H1
        isplitl [H2]; · iapply rep_of_owns; iexact H2
        isplitl [HT0]; · iexact HT0
        isplitl [H3]; · iexact H3
        iintro ⟨H0, H1, H2, HT0, H3⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        first | (iexists d3; iexact H3) | iexact H3
      · rewrite [i3]
        simp only [before0_0, before0_1, before0_2, before0_3, after0_0, after0_1, after0_2, after0_3, f3]
        simp only [fr3, Bool.false_eq_true, ↓reduceIte]
        rewrite [show (dats T hT m ρ 0 c).Φ t.succ = Phi T hT m ρ c t.succ from rfl, show (dats T hT m ρ 0 c).Φ t.castSucc = Phi T hT m ρ c t.castSucc from rfl,
          show (dats T hT m ρ 0 c).owesAt () t.succ = (dats T hT m ρ 0 c).owesAt () t.castSucc from rfl]
        try rewrite [traj0_eq, step0_B T hT m ρ c t _ q0 q1]
        unfold Phi; simp only [prev0T_castSucc, prev0T_succ, traj0_eq, step0_B T hT m ρ c t _ q0 q1, Fin.val_castSucc, Fin.val_succ, fr3, Bool.false_eq_true, ↓reduceIte]
        iintro ⟨⟨HT0⟩, Ho, ⟨%d0, H0⟩, ⟨%d1, H1⟩, ⟨%d2, H2⟩, ⟨%d3, H3⟩⟩
        iapply ((kernelRun0_B c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _ _)
        isplitl [H0]; · iapply rep_of_owns; iexact H0
        isplitl [H1]; · iapply rep_of_owns; iexact H1
        isplitl [H2]; · iapply rep_of_owns; iexact H2
        isplitl [HT0]; · iexact HT0
        isplitl [H3]; · iexact H3
        iintro ⟨H0, H1, H2, HT0, H3⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        first | (iexists d3; iexact H3) | iexact H3

/-- The library's body obligation, at every point. -/
theorem body_obligation (hp : Pinned T m) (c : Dev nD) : BodyObligation (dats T hT m ρ 0 c) (defs₀ (F := Bits)) Variants.none () Set.univ := fun t => by
  rw [bigSep_W0]
  exact sound_body T hT m ρ hp c t

/-! ## The launch -/

/-- The rounds library's launch element. -/
def u₀ : UR sig nD τ :=
  initOf (Pipeline.cells (pcs T hT) ((launch0 (F := Bits)).cellOf_inj fun _ => adm T hT))
    (Pipeline.launchToks (pcs T hT) ((launch0 (F := Bits)).cellOf_inj fun _ => adm T hT))

theorem share_eq (c : Dev nD) (w : Fin (cfgA T hT).W) : (dats T hT m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm T hT).1 ∗ Pipeline.scopedRest spec0 c) ⊢ (dats T hT m ρ 0 c).Φ 0 := by
  rw [prefHeld_eq, scopedRest0_eq, show (dats T hT m ρ 0 c).Φ 0 = Phi T hT m ρ c 0 from rfl]
  unfold Phi
  iintro ⟨-, ⟨HT0⟩, -⟩
  iexact HT0

/-- at the last point it gives the scratch buffers back (`hout`), the tables let go. -/
theorem phiN_exit (c : Dev nD) : (dats T hT m ρ 0 c).Φ (Fin.last (cfgA T hT).N) ⊢ iprop(BI.emp ∗ Pipeline.scopedRest spec0 c) := by
  rw [scopedRest0_eq, show (dats T hT m ρ 0 c).Φ (Fin.last (cfgA T hT).N) = Phi T hT m ρ c (Fin.last _) from rfl]
  unfold Phi
  iintro ⟨-⟩
  isplitr; · iempintro
  iempintro

/-- The physical post: every array at what the library computes, every table at what the pipeline ran at. -/
def QC : PUnit × MemSt nD τ sig (Elt Bits) → Prop := fun r =>
  ∀ c : Dev nD, (∀ w : Fin (cfgA T hT).W, r.2.mem (((cfgA T hT).win w).arr.view.loc (c : Thread nD τ)) = (dats T hT m ρ 0 c).arrAt w (cfgA T hT).N)
    ∧ ∀ j, r.2.mem ((c : Thread nD τ).loc (pre0.ref j)) = (adm T hT).1 j

theorem V_pre (hp : Pinned T m) (c : Dev nD) (j : Fin 1) : m ((c : Thread nD τ).loc (pre0.ref j)) = (adm T hT).1 j := by
  fin_cases j
  · exact hp c

set_option backward.isDefEq.respectTransparency.types false in
set_option maxHeartbeats 4000000 in
/-- From any memory with zero counters whose table is `T`, every weakly fair execution ends with every array at what the
    pipeline's proof data hold after the last point, and every counter at zero. -/
theorem run_main_quiescent (hp : Pinned T m) : θ_run (defs (F := Bits)) (onTc (τ := τ) (main (F := Bits))) (s₀ m ρ) (fun r => QC T hT m ρ r ∧ r.2.sem = fun _ => 0) :=
  Pipeline.θ_run_region_noSem_pf_quiescent pcfgs (fun _ => adm T hT) (dats T hT m ρ) () ((launch0 (F := Bits)).cellOf_inj fun _ => adm T hT) (0 : Fin 1)
    (launch0 (F := Bits)).win.to₀ (launch0 (F := Bits)).pre EP defs₀ Variants.none m ρ main
    (hbody := fun c => (body_obligation T hT m ρ hp c).loose) (hne := (launch0 (F := Bits)).block_pos)
    (harr := (launch0 (F := Bits)).arr_whole) (hstage := (launch0 (F := Bits)).stage_whole) (howed := fun _ _ => rfl)
    (u₀ := u₀ T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m ρ) 0 (launch0 (F := Bits)).win.arr_inj c (launch0 (F := Bits)).arr_whole
      (share_eq T hT m ρ c) _ _ fun _ => rfl)
    (hpf := V_pre T hT m hp)
    (X := fun _ => iprop(emp)) (Y := fun _ => iprop(emp)) (Z := fun _ => iprop(emp))
    (hX := fun c => by rw [unscopedRestP0_eq]; iintro -; isplitr <;> iempintro)
    (hin := phi0_intro T hT m ρ)
    (hout := phiN_exit T hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Bits)) (onTc (τ := τ) (main (F := Bits))) (s₀ m ρ) (QC T hT m ρ) :=
  (θ_run defs _ _).mono (fun _ h => h.1) (run_main_quiescent T hT m ρ hp)

include hT in
/-- `frame` without the counters: the argument arrays end unchanged. -/
theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 4)).trans ((dats T hT m ρ 0 c).arrAt_in (0 : Fin 4) rfl _), ((h c).2 0).trans (hp c).symm, ((h c).1 (1 : Fin 4)).trans ((dats T hT m ρ 0 c).arrAt_in (1 : Fin 4) rfl _), ((h c).1 (2 : Fin 4)).trans ((dats T hT m ρ 0 c).arrAt_in (2 : Fin 4) rfl _)⟩) (run_main T hT m ρ hp)

include hT in
/-- THE FRAME at a sorted table: every weakly fair execution terminates, nothing faults, every argument array ends unchanged
    and every semaphore counter reads zero. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T hT m ρ hp) ((θ_run defs _ _).mono (fun _ h => h.2) (run_main_quiescent T hT m ρ hp))

end Cert.Kernel.Table

end
-- ==== Proof.KernelIdeal.Body.lean ====
/- THE BODY OF THE KERNEL at the extended reals: what one grid point leaves in the output buffer, for any table of pointers.
   Three cases: at the first point the buffer is set to zero and the block's rows are added (`kernelRun0_A`); at a later live
   point the rows are added to what the buffer held (`kernelRun0_C`); past the last block nothing is stored
   (`kernelRun0_B`). -/
module

public import proofs.«01_k».proof.Proof.Words
public import proofs.«01_k».proof.Proof.Gen.KernelIdeal.Flash.Runs
public import Idealize.ShloMosaic.Lib.Pipeline.Value
public import Idealize.ShloMosaic.Lib.ValueIdxCore

@[expose] public section

set_option maxRecDepth 16384
set_option Elab.async false

noncomputable section

namespace Cert.KernelIdeal.Table

open Cert.KernelIdeal Cert.KernelIdeal.Gen Cert.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- Word `k` of a table. -/
def wd (T : S17.Idx → BitVec 32) (k : Fin 17) : BitVec 32 := T (ValueIdx.ix1 k)

/-- What the body's load of word `k` reads. -/
theorem read_word (T : S17.Idx → BitVec 32) (k : ℕ) (hk : k < 17) (inb : ∀ a, (![k] : Fin 1 → ℕ) a + S1.size a ≤ S17.size a)
    (x : (Rect.unit (s := S17) ![k] S1.size inb).toLoadRect.shape.Idx) :
    View.readAt (Elt Ideal) (tbM0_0).view (Rect.unit (s := S17) ![k] S1.size inb).toLoadRect T x = wd T ⟨k, hk⟩ := by
  show T _ = T _
  congr 1
  funext a
  fin_cases a
  apply Fin.ext
  have hx : (x 0).val = 0 := Nat.lt_one_iff.1 (x 0).isLt
  refine Eq.trans (b := k + 1 * (x 0).val) rfl ?_
  show k + 1 * (x 0).val = k
  omega

/-- The same, of the contents the load reads through the whole table. -/
theorem ld_word (T : S17.Idx → BitVec 32) (k : ℕ) (hk : k < 17) (inb : ∀ a, (![k] : Fin 1 → ℕ) a + S1.size a ≤ S17.size a)
    (x) :
    View.ld (View.read (Elt Ideal) (tbM0_0).view T) (Rect.unit (s := S17) ![k] S1.size inb) x = wd T ⟨k, hk⟩ := read_word T k hk inb x

/-- What a live point leaves in the output buffer, from what it held: the rows of the point's block added segment by
    segment. -/
def stepV (T : S17.Idx → BitVec 32) (i : grid0.Coords) (x0 : S8192x256.Idx → Elt Ideal .f32) (x1 : S256x256.Idx → Elt Ideal .f32)
    (x2 : S256.Idx → Elt Ideal .f32) (acc : S16x256.Idx → Elt Ideal .f32) : S16x256.Idx → Elt Ideal .f32 :=
  k0_pay2 (blk (wd T 0) (i 0).val) (k0_pay3 x0 x1 x2)
    (k0_pay11 (F := Ideal) (wd T 7) (wd T 8) (wd T 9) (wd T 10) (wd T 11) (wd T 12) (wd T 13) (wd T 14) (wd T 15)
      (k0_pay4 (F := Ideal) (wd T 0)) (k0_pay5 (F := Ideal) (wd T 1)) (k0_pay6 (F := Ideal) (wd T 2)) (k0_pay7 (F := Ideal) (wd T 3))
      (k0_pay8 (F := Ideal) (wd T 4)) (k0_pay9 (F := Ideal) (wd T 5)) (k0_pay10 (F := Ideal) (wd T 6)))
    (k0_pay12 (F := Ideal) (wd T 1) (wd T 2) (wd T 3) (wd T 4) (wd T 5) (wd T 6) (wd T 7) (wd T 8) (wd T 9) (wd T 10) (wd T 11)
      (wd T 12) (wd T 13) (wd T 14) (wd T 15) (wd T 16)) acc

set_option backward.proofsInPublic true in
set_option maxHeartbeats 8000000 in
/-- A LATER LIVE POINT: from the inputs at their blocks, the table and the output buffer at `y3`, the body runs to the buffer
    with its pieces written over `y3`. -/
noncomputable def kernelRun0_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Ideal .i32))
     (x0 : (S8192x256.Idx → Elt Ideal .f32)) (x1 : (S256x256.Idx → Elt Ideal .f32)) (x2 : (S256.Idx → Elt Ideal .f32)) (y3 : (S16x256.Idx → Elt Ideal .f32)) (k0_h1 : ¬(k0_cond1 i = 1#1)) (k0_h2 : k0_cond2 i (View.readAt (Elt Ideal) (tbM0_0).view (Rect.unit (s := S17) ![0] S1.size inb_S17_S1_0).toLoadRect T0 (Shape.Idx.first (numel1_S1.symm ▸ Nat.one_pos))) (View.readAt (Elt Ideal) (tbM0_0).view (Rect.unit (s := S17) ![16] S1.size inb_S17_S1_16).toLoadRect T0 (Shape.Idx.first (numel1_S1.symm ▸ Nat.one_pos))) (View.readAt (Elt Ideal) (tbM0_0).view (Rect.unit (s := S17) ![0] S1.size inb_S17_S1_0).toLoadRect T0 (Shape.Idx.first (numel1_S1.symm ▸ Nat.one_pos))) = 1#1) :
    { out0 : List (View.Piece (Elt Ideal) S16x256 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (tbM0_0.view.loc (c : Thread nD τ) ↦{fullShare.right} T0)
          ∗ owns (c : Thread nD τ) arg5 fullShare y3
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0__body i tbM0_0 (Memref.isWhole_whole _) arg2 harg2 arg3 harg3 arg4 harg4 arg5 harg5) K } :=
  ⟨_, fun K => by
    unfold owns
    rw [cc0__body_eq_skeleton]; unfold cc0__body_skel
    iintro ⟨H0, H1, H2, HT0, ⟨%f3, %hf3, HO3⟩, Hk⟩
    obtain rfl := harg5.eq_unread hf3
    have hT0 : tbM0_0.IsWhole := Memref.isWhole_whole _
    sl_exec! (disch := first | (guard_target = ¬(k0_cond1 _ = _); exact k0_h1) | (guard_target = k0_cond2 _ _ _ _ = _; exact k0_h2))
    sl_step
    iapply Hk
    isplitl [H0]; · iexact H0
    isplitl [H1]; · iexact H1
    isplitl [H2]; · iexact H2
    isplitl [HT0]; · iexact HT0
    iexists _; iexact HO3⟩

/-- A later live point's pieces cover the output buffer. -/
theorem cover_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Ideal .i32))
     (x0 : (S8192x256.Idx → Elt Ideal .f32)) (x1 : (S256x256.Idx → Elt Ideal .f32)) (x2 : (S256.Idx → Elt Ideal .f32)) (y3 : (S16x256.Idx → Elt Ideal .f32)) (k0_h1 k0_h2) (y : S16x256.Idx) :
    ∃ pc ∈ (kernelRun0_C c i arg2 harg2 arg3 harg3 arg4 harg4 arg5 harg5 T0 x0 x1 x2 y3 k0_h1 k0_h2).1, y ∈ pc.1.set :=
  View.cover_of_tiledL (kernelRun0_C c i arg2 harg2 arg3 harg3 arg4 harg4 arg5 harg5 T0 x0 x1 x2 y3 k0_h1 k0_h2).1 S16x256.size (by sl_kernel_rfl) y

/-- A later live point's pieces leave the point's step on what the buffer held. -/
theorem out_C (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Ideal .i32))
     (x0 : (S8192x256.Idx → Elt Ideal .f32)) (x1 : (S256x256.Idx → Elt Ideal .f32)) (x2 : (S256.Idx → Elt Ideal .f32)) (y3 : (S16x256.Idx → Elt Ideal .f32)) (k0_h1 k0_h2) :
    View.canon (kernelRun0_C c i arg2 harg2 arg3 harg3 arg4 harg4 arg5 harg5 T0 x0 x1 x2 y3 k0_h1 k0_h2).1 = stepV T0 i x0 x1 x2 y3 := by
  unfold kernelRun0_C
  sl_unfold_words
  dsimp only
  rw [View.canon_cons_unit_zero (S := S16x256) hz2]
  unfold stepV k0_pay11 k0_pay12 k0_pay10 k0_pay9 k0_pay8 k0_pay7 k0_pay6 k0_pay5 k0_pay4
  dsimp only
  simp only [read_word T0 0 (by decide)]
  simp only [View.readAt_eq_ld, View.read_rep, harg5.read_unread, View.ld_unit_zero (S := S16x256) hz2,
    View.ld_unit_zero (S := S8192x256) hz2, View.ld_unit_zero (S := S256x256) hz2, View.ld_unit_zero (S := S256) hz1, View.readCov_unit_zero (S := S16x256) _ hz2]
  congr 1
  · repeat' first
      | exact congrArg (broadcast S1) (ld_word T0 _ (by decide) _ _)
      | congr 1
  · repeat' first
      | exact congrArg (broadcast S1) (ld_word T0 _ (by decide) _ _)
      | congr 1

/-- The first point's pieces leave the point's step on zeros. -/
theorem out_A (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (T0 : (S17.Idx → Elt Ideal .i32))
     (x0 : (S8192x256.Idx → Elt Ideal .f32)) (x1 : (S256x256.Idx → Elt Ideal .f32)) (x2 : (S256.Idx → Elt Ideal .f32)) (k0_h1 k0_h2) :
    View.canon (kernelRun0_A c i arg2 harg2 arg3 harg3 arg4 harg4 arg5 harg5 T0 x0 x1 x2 k0_h1 k0_h2).1 = stepV T0 i x0 x1 x2 (k0_pay1 (F := Ideal)) := by
  unfold kernelRun0_A
  sl_unfold_words
  dsimp only
  rw [View.canon_cons_unit_zero (S := S16x256) hz2]
  unfold stepV k0_pay11 k0_pay12 k0_pay10 k0_pay9 k0_pay8 k0_pay7 k0_pay6 k0_pay5 k0_pay4
  dsimp only
  simp only [read_word T0 0 (by decide)]
  simp only [View.readAt_eq_ld, View.read_rep, harg5.read_unread, View.ld_unit_zero (S := S16x256) hz2,
    View.ld_unit_zero (S := S8192x256) hz2, View.ld_unit_zero (S := S256x256) hz2, View.ld_unit_zero (S := S256) hz1, View.readCov_unit_zero (S := S16x256) _ hz2]
  congr 1
  · repeat' first
      | exact congrArg (broadcast S1) (ld_word T0 _ (by decide) _ _)
      | congr 1
  · repeat' first
      | exact congrArg (broadcast S1) (ld_word T0 _ (by decide) _ _)
      | congr 1

end Cert.KernelIdeal.Table

end
-- ==== Proof.KernelIdeal.Run.lean ====
/- THE KERNEL'S RUN at the extended reals for EVERY table of pointers the precondition allows: the pipeline at the table, the
   decisions at each point, what the output buffer holds point by point, the body's obligation, the launch, and the frame.
   The set-up of the launch follows the generated certificate's; the decisions are proved from the table's order
   (Words.lean), not decided at one table. -/
module

public import proofs.«01_k».proof.Proof.KernelIdeal.Body
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Table

open Cert.KernelIdeal Cert.KernelIdeal.Gen Cert.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's resource algebra, embedded whole. -/
abbrev EP : Emb (UR sig nD τ) 𝕄 := emb₁

/-! ## The pipeline at a table -/

section table
variable (T : S17.Idx → BitVec 32)

/-- The tables' contents: the one table, at `T`. -/
def pfT : pre0.Contents (Elt Ideal) := fun | ⟨0, _⟩ => T | ⟨_ + 1, h⟩ => absurd h (by simp)

/-- What an index map reads of word `k`. -/
theorem at_word (k : ℕ) (hk : k < 17) (inb : ∀ a, (![k] : Fin 1 → ℕ) a + S1.size a ≤ S17.size a) :
    (pfT T).at 0 (Rect.unit (s := S17) ![k] S1.size inb) numel1_S1 = wd T ⟨k, hk⟩ :=
  read_word T k hk inb _

/-- The word the idle table reads at offset `k`. -/
theorem atD_word (k : ℕ) (hk : k < 17) : (pfT T).atD 0 ![k] = wd T ⟨k, hk⟩ := by
  have hk' : ∀ a, (![k] : Fin 1 → ℕ) a + 1 ≤ S17.size a := by intro a; fin_cases a; exact hk
  refine (dif_pos hk').trans (congrArg T ?_)
  funext a; fin_cases a; rfl

/-- The block of rows window 0 fetches at a point. -/
theorem transform_word (i : grid0.Coords) :
    cc0_transform_0 (F := Ideal) inb_S17_S1_0 numel1_S1 inb_S17_S1_16 (pfT T) i
      = ![(Scalar.minsi (blk (wd T 0) (i 0).val) (lastBlk (wd T 0) (wd T 16))).toNat, 0] := by
  have h0 : wd T 0 = _ := (at_word T 0 (by decide) inb_S17_S1_0).symm
  have h16 : wd T 16 = _ := (at_word T 16 (by decide) inb_S17_S1_16).symm
  rw [h0, h16]
  rfl

theorem coord_lt (i : grid0.Coords) : (i 0).val < 4 := (i 0).isLt

/-- At a sorted table every block the pipeline fetches lies inside its array. -/
theorem ok_table (hT : Sorted (wd T)) : ok0 (F := Ideal) (pfT T) := by
  intro i
  refine ⟨?_, .inl rfl⟩
  rw [transform_word, fetched_toNat (hT.lt 0) (hT.lt 16) (coord_lt i)]
  have h0 := hT.lt 0
  have h16 := hT.lt 16
  intro a
  fin_cases a <;> simp [Matrix.cons_val_zero] <;> omega

end table

variable (T : S17.Idx → BitVec 32) (hT : Sorted (wd T))

/-- The admissible contents, the pipeline at them, as @main's one. -/
def adm : (pcfg0 (F := Ideal)).Adm := ⟨pfT T, ok_table T hT⟩
abbrev cfgA : Pipeline.Cfg sig Λ₀ := cfg0 (F := Ideal) (adm T hT)
abbrev pcs : Fin 1 → Pipeline.Cfg sig Λ₀ := Pipeline.pin (pcfgs (F := Ideal)) fun _ => adm T hT

variable (m : (ℓ : Loc nD τ sig) → Buf (Elt Ideal) ℓ) (ρ : Dev nD → PrngReg)

/-- The launch memory's table is `T`, on every device. -/
def Pinned : Prop := ∀ c : Dev nD, m ((c : Thread nD τ).loc main_arg1) = T

/-- Point `t`'s coordinates. -/
abbrev crd (t : Fin (cfgA T hT).N) : (cfgA T hT).grid.Coords := (cfgA T hT).grid.coords t

/-- Each window's current staging memref at point `t`, spelled as the pipeline passes it, and its wholeness. -/
abbrev ms0_0 (t : Fin (cfgA T hT).N) : Memref sig .tc .vmem S8192x256 .f32 := spec0_0.stage ((cfgA T hT).slots t (0 : Fin 4))
abbrev hs0_0 (t : Fin (cfgA T hT).N) : (ms0_0 T hT t).IsWhole := hstage0_0 (((cfgA T hT).slots t (0 : Fin 4)).cast nbuf0_0)
abbrev ms0_1 (t : Fin (cfgA T hT).N) : Memref sig .tc .vmem S256x256 .f32 := spec0_1.stage ((cfgA T hT).slots t (1 : Fin 4))
abbrev hs0_1 (t : Fin (cfgA T hT).N) : (ms0_1 T hT t).IsWhole := hstage0_1 (((cfgA T hT).slots t (1 : Fin 4)).cast nbuf0_1)
abbrev ms0_2 (t : Fin (cfgA T hT).N) : Memref sig .tc .vmem S256 .f32 := spec0_2.stage ((cfgA T hT).slots t (2 : Fin 4))
abbrev hs0_2 (t : Fin (cfgA T hT).N) : (ms0_2 T hT t).IsWhole := hstage0_2 (((cfgA T hT).slots t (2 : Fin 4)).cast nbuf0_2)
abbrev ms0_3 (t : Fin (cfgA T hT).N) : Memref sig .tc .vmem S16x256 .f32 := spec0_3.stage ((cfgA T hT).slots t (3 : Fin 4))
abbrev hs0_3 (t : Fin (cfgA T hT).N) : (ms0_3 T hT t).IsWhole := hstage0_3 (((cfgA T hT).slots t (3 : Fin 4)).cast nbuf0_3)

/-! ## The windows' blocks -/

/-- Window `w`'s block at point `t`, read off its array at launch. -/
def iblk (c : Dev nD) (w : Fin (cfgA T hT).W) (t : Fin (cfgA T hT).N) : (((cfgA T hT).win w).xblock (crd T hT t)).Idx → Elt Ideal ((cfgA T hT).win w).elt :=
  (((cfgA T hT).win w).blk t).view.read (Elt Ideal) ((s₀ m ρ).mem (((cfgA T hT).win w).arr.view.loc (c : Thread nD τ)))

/-! ## The decisions at a point -/

/-- The first point. -/
abbrev P0_0 (t : Fin (cfgA T hT).N) : Prop := k0_cond1 (crd T hT t) = 1#1
/-- A point whose block is at most the last. -/
abbrev P0_1 (t : Fin (cfgA T hT).N) : Prop := live (wd T 0) (wd T 16) ((crd T hT t) 0).val = 1#1

theorem crd_val (t : Fin (cfgA T hT).N) : ((crd T hT t) 0).val = t.val := by
  have h : ∀ t : Fin grid0.N, ((grid0.coords t) 0).val = t.val := by decide
  exact h t

theorem first_iff (t : Fin (cfgA T hT).N) : P0_0 T hT t ↔ t.val = 0 := by
  have h : ∀ t : Fin grid0.N, k0_cond1 (grid0.coords t) = 1#1 ↔ t.val = 0 := by decide
  exact h t

theorem live_first (t : Fin (cfgA T hT).N) (q0 : P0_0 T hT t) : P0_1 T hT t := by
  have h : ((crd T hT t) 0).val = 0 := (crd_val T hT t).trans ((first_iff T hT t).1 q0)
  show live _ _ _ = 1#1
  rw [h, live_iff (hT.lt 0) (hT.lt 16) (by decide)]
  exact Nat.div_le_div_right (le_max_right _ _)

/-- The second decision over the words the body reads. -/
theorem cond2_words (i : grid0.Coords) :
    k0_cond2 i (View.readAt (Elt Ideal) (tbM0_0).view (Rect.unit (s := S17) ![0] S1.size inb_S17_S1_0).toLoadRect T (Shape.Idx.first (numel1_S1.symm ▸ Nat.one_pos))) (View.readAt (Elt Ideal) (tbM0_0).view (Rect.unit (s := S17) ![16] S1.size inb_S17_S1_16).toLoadRect T (Shape.Idx.first (numel1_S1.symm ▸ Nat.one_pos))) (View.readAt (Elt Ideal) (tbM0_0).view (Rect.unit (s := S17) ![0] S1.size inb_S17_S1_0).toLoadRect T (Shape.Idx.first (numel1_S1.symm ▸ Nat.one_pos)))
      = live (wd T 0) (wd T 16) (i 0).val := by
  rw [read_word T 0 (by decide), read_word T 16 (by decide)]; rfl

/-- The output window is idle at a point exactly when neither decision holds. -/
theorem idle_eq (t : Fin (cfgA T hT).N) :
    (cfgA T hT).idle (3 : Fin 4) ((cfgA T hT).grid.coords t)
      = (!(k0_cond1 (crd T hT t) == 1#1) && !(live (wd T 0) (wd T 16) ((crd T hT t) 0).val == 1#1)) := by
  show (!(k0_cond1 (crd T hT t) == 1#1) && !(k0_cond2 (crd T hT t) ((pfT T).atD 0 ![0]) ((pfT T).atD 0 ![16]) ((pfT T).atD 0 ![0]) == 1#1)) = _
  rw [atD_word T 0 (by decide), atD_word T 16 (by decide)]; rfl

/-- The output is written back at the last point only. -/
theorem flush_eq (t : Fin (cfgA T hT).N) : ((cfgA T hT).win (3 : Fin 4)).flush t = decide (t.val = 3) := by
  rcases fin_N0 t with h | h | h | h <;> subst h <;> rfl

/-- Whether the output buffer holds junk before position `n`: before the first point, and after the write-back. -/
def frTab0_3 (n : ℕ) : Bool := n == 0 || n == 4

theorem frTab0_3_step (t : Fin (cfgA T hT).N) :
    frTab0_3 (t.val + 1) = (((cfgA T hT).win (3 : Fin 4)).flush t || ((cfgA T hT).idle (3 : Fin 4) ((cfgA T hT).grid.coords t) && frTab0_3 t.val)) := by
  rw [flush_eq, idle_eq]
  have h0 := first_iff T hT t
  by_cases q0 : P0_0 T hT t
  · rw [h0.1 q0, show (k0_cond1 (crd T hT t) == 1#1) = true from by simpa using q0]; rfl
  · have hn : t.val ≠ 0 := fun h => q0 (h0.2 h)
    have ht : t.val < 4 := t.isLt
    have hf : frTab0_3 t.val = false := by simp [frTab0_3]; omega
    rw [hf, Bool.and_false, Bool.or_false]
    by_cases h3 : t.val = 3 <;> simp [frTab0_3, h3]

theorem freshF0_3 (t : Fin (cfgA T hT).N) : (cfgA T hT).fresh (3 : Fin 4) t.val = frTab0_3 t.val :=
  Pipeline.Cfg.fresh_tab (cfgA T hT) (3 : Fin 4) frTab0_3 rfl (frTab0_3_step T hT) t.val (Nat.le_of_lt t.isLt)

theorem fresh_later (t : Fin (cfgA T hT).N) (q0 : ¬P0_0 T hT t) : (cfgA T hT).fresh (3 : Fin 4) t.val = false := by
  have hn : t.val ≠ 0 := fun h => q0 ((first_iff T hT t).2 h)
  have ht : t.val < 4 := t.isLt
  rw [freshF0_3]; simp [frTab0_3]; omega

/-- The first point: the schedule. -/
theorem sched0_A (t : Fin (cfgA T hT).N) (q0 : P0_0 T hT t) :
    (cfgA T hT).idle (3 : Fin 4) ((cfgA T hT).grid.coords t) = false ∧ ((cfgA T hT).win (3 : Fin 4)).flush t = false ∧ (cfgA T hT).fresh (3 : Fin 4) t.val = true := by
  have h0 := (first_iff T hT t).1 q0
  refine ⟨?_, ?_, ?_⟩
  · rw [idle_eq, show (k0_cond1 (crd T hT t) == 1#1) = true from by simpa using q0]; rfl
  · rw [flush_eq, h0]; rfl
  · rw [freshF0_3, h0]; rfl

/-- A later live point. -/
theorem sched0_C (t : Fin (cfgA T hT).N) (q0 : ¬P0_0 T hT t) (q1 : P0_1 T hT t) :
    (cfgA T hT).idle (3 : Fin 4) ((cfgA T hT).grid.coords t) = false ∧ (cfgA T hT).fresh (3 : Fin 4) t.val = false := by
  refine ⟨?_, fresh_later T hT t q0⟩
  rw [idle_eq, show (live (wd T 0) (wd T 16) ((crd T hT t) 0).val == 1#1) = true from by simpa using q1]; simp

/-- A point past the last block. -/
theorem sched0_B (t : Fin (cfgA T hT).N) (q0 : ¬P0_0 T hT t) (q1 : ¬P0_1 T hT t) :
    (cfgA T hT).idle (3 : Fin 4) ((cfgA T hT).grid.coords t) = true ∧ (cfgA T hT).fresh (3 : Fin 4) t.val = false := by
  refine ⟨?_, fresh_later T hT t q0⟩
  rw [idle_eq]; simp [q0, q1]

/-! ## What the output buffer holds after each point -/

/-- One step: what the output buffer holds after point `t`, from what it held before. -/
def step0 (c : Dev nD) (t : Fin (cfgA T hT).N) (prev : (S16x256.Idx → Elt Ideal .f32)) : (S16x256.Idx → Elt Ideal .f32) :=
  if P0_0 T hT t then
    stepV T (crd T hT t) (iblk T hT m ρ c (0 : Fin 4) t) (iblk T hT m ρ c (1 : Fin 4) t) (iblk T hT m ρ c (2 : Fin 4) t) (k0_pay1 (F := Ideal))
  else if P0_1 T hT t then
    stepV T (crd T hT t) (iblk T hT m ρ c (0 : Fin 4) t) (iblk T hT m ρ c (1 : Fin 4) t) (iblk T hT m ρ c (2 : Fin 4) t) prev
  else prev

/-- THE TRAJECTORY: after position `n`. -/
def traj0 (c : Dev nD) : (n : ℕ) → n < (cfgA T hT).N → (S16x256.Idx → Elt Ideal .f32)
  | 0, h => step0 T hT m ρ c ⟨0, h⟩ default
  | n + 1, h => step0 T hT m ρ c ⟨n + 1, h⟩ (traj0 c n (Nat.lt_of_succ_lt h))

/-- What they held BEFORE point `t` (junk before the first). -/
def prev0 (c : Dev nD) (t : Fin (cfgA T hT).N) : (S16x256.Idx → Elt Ideal .f32) :=
  if h : t.val = 0 then default else traj0 T hT m ρ c (t.val - 1) (by omega)

theorem traj0_eq (c : Dev nD) (t : Fin (cfgA T hT).N) : traj0 T hT m ρ c t.val t.isLt = step0 T hT m ρ c t (prev0 T hT m ρ c t) := by
  obtain ⟨n, hn⟩ := t
  cases n with
  | zero => rfl
  | succ n => unfold prev0; simp only [Nat.add_one_ne_zero, dif_neg, not_false_eq_true]; rfl

/-- The step at the first point. -/
theorem step0_A (c : Dev nD) (t : Fin (cfgA T hT).N) (prev : (S16x256.Idx → Elt Ideal .f32)) (q0 : P0_0 T hT t) :
    step0 T hT m ρ c t prev = stepV T (crd T hT t) (iblk T hT m ρ c (0 : Fin 4) t) (iblk T hT m ρ c (1 : Fin 4) t) (iblk T hT m ρ c (2 : Fin 4) t) (k0_pay1 (F := Ideal)) := by
  unfold step0; rw [if_pos q0]

/-- The step at a later live point. -/
theorem step0_C (c : Dev nD) (t : Fin (cfgA T hT).N) (prev : (S16x256.Idx → Elt Ideal .f32)) (q0 : ¬P0_0 T hT t) (q1 : P0_1 T hT t) :
    step0 T hT m ρ c t prev = stepV T (crd T hT t) (iblk T hT m ρ c (0 : Fin 4) t) (iblk T hT m ρ c (1 : Fin 4) t) (iblk T hT m ρ c (2 : Fin 4) t) prev := by
  unfold step0; rw [if_neg q0, if_pos q1]

/-- The step at a point past the last block. -/
theorem step0_B (c : Dev nD) (t : Fin (cfgA T hT).N) (prev : (S16x256.Idx → Elt Ideal .f32)) (q0 : ¬P0_0 T hT t) (q1 : ¬P0_1 T hT t) :
    step0 T hT m ρ c t prev = prev := by
  unfold step0; rw [if_neg q0, if_neg q1]

/-! ## The pipeline's proof data -/

/-- What the tracked buffers held before position `t` of `Fin (N+1)` (the invariant's index). -/
def prev0T (c : Dev nD) (t : Fin ((cfgA T hT).N + 1)) : (S16x256.Idx → Elt Ideal .f32) :=
  if h : t.val = 0 then default else traj0 T hT m ρ c (t.val - 1) (by omega)

theorem prev0T_castSucc (c : Dev nD) (t : Fin (cfgA T hT).N) : prev0T T hT m ρ c t.castSucc = prev0 T hT m ρ c t := by
  unfold prev0T prev0; simp only [Fin.val_castSucc]
theorem prev0T_succ (c : Dev nD) (t : Fin (cfgA T hT).N) : prev0T T hT m ρ c t.succ = traj0 T hT m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA T hT).N + 1)) : sProp 𝕄 :=
  iprop((tbM0_0.view.loc (c : Thread nD τ) ↦{fullShare.right} T))

/-- The proof data of the one pipeline on core `c`. -/
def dats (_ : Fin 1) (c : Dev nD) : Dat τ (Elt Ideal) Unit ℕ (UR sig nD τ) ℕ (cfgA T hT) c where
  A w := (s₀ m ρ).mem (((cfgA T hT).win w).arr.view.loc (c : Thread nD τ))
  after w t := match w with
    | ⟨0, _⟩ => iblk T hT m ρ c (0 : Fin 4) t
    | ⟨1, _⟩ => iblk T hT m ρ c (1 : Fin 4) t
    | ⟨2, _⟩ => iblk T hT m ρ c (2 : Fin 4) t
    | ⟨3, _⟩ => (traj0 T hT m ρ c t.val t.isLt)
  Φ t := Phi T hT m ρ c t
  q _ := fullShare
  owed _ := 0

theorem after0_0 (c : Dev nD) (t : Fin (cfgA T hT).N) : (dats T hT m ρ 0 c).after (0 : Fin 4) t = iblk T hT m ρ c (0 : Fin 4) t := rfl
theorem after0_1 (c : Dev nD) (t : Fin (cfgA T hT).N) : (dats T hT m ρ 0 c).after (1 : Fin 4) t = iblk T hT m ρ c (1 : Fin 4) t := rfl
theorem after0_2 (c : Dev nD) (t : Fin (cfgA T hT).N) : (dats T hT m ρ 0 c).after (2 : Fin 4) t = iblk T hT m ρ c (2 : Fin 4) t := rfl
theorem after0_3 (c : Dev nD) (t : Fin (cfgA T hT).N) : (dats T hT m ρ 0 c).after (3 : Fin 4) t = (traj0 T hT m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA T hT).N) (d) : (dats T hT m ρ 0 c).before (0 : Fin 4) t d = iblk T hT m ρ c (0 : Fin 4) t :=
  ((dats T hT m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T hT).N) (d) : (dats T hT m ρ 0 c).before (1 : Fin 4) t d = iblk T hT m ρ c (1 : Fin 4) t :=
  ((dats T hT m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T hT).N) (d) : (dats T hT m ρ 0 c).before (2 : Fin 4) t d = iblk T hT m ρ c (2 : Fin 4) t :=
  ((dats T hT m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T hT).N) (ht : t.val ≠ 0), (cfgA T hT).idle (3 : Fin 4) ((cfgA T hT).grid.coords t) = true → (cfgA T hT).fresh (3 : Fin 4) t.val = false →
    (dats T hT m ρ 0 c).after (3 : Fin 4) t = (dats T hT m ρ 0 c).after (3 : Fin 4) ⟨t.val - 1, by omega⟩ := by
  intro t ht hi hf
  rw [after0_3, after0_3, traj0_eq]
  by_cases q0 : P0_0 T hT t
  · obtain ⟨i3, -, -⟩ := sched0_A T hT t q0
    rw [i3] at hi; exact absurd hi (by decide)
  · by_cases q1 : P0_1 T hT t
    · obtain ⟨i3, -⟩ := sched0_C T hT t q0 q1
      rw [i3] at hi; exact absurd hi (by decide)
    · rw [step0_B T hT m ρ c t _ q0 q1]
      unfold prev0; rw [dif_neg ht]

/-- Output window 3 holds, when the body runs at `t`: junk if nothing was stored since its last write-back (`Cfg.fresh`),
    else what the point before left (TableIdle.lean `Dat.before_out_traj`). -/
theorem before0_3 (c : Dev nD) (t : Fin (cfgA T hT).N) (d) :
    (dats T hT m ρ 0 c).before (3 : Fin 4) t d = if (cfgA T hT).fresh (3 : Fin 4) t.val then d else (prev0 T hT m ρ c t) := by
  rw [(dats T hT m ρ 0 c).before_out_traj (3 : Fin 4) rfl (fun _ _ => rfl) (hcarry0_3 T hT m ρ c) t.val t rfl d]
  by_cases hf : (cfgA T hT).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T hT).N) : Prog (TpuEff nD τ sig (Elt Ideal) Λ₀ .tc) PUnit :=
  cc0__body (crd T hT t) (Memref.whole main_arg1) (Memref.isWhole_whole _) (ms0_0 T hT t) (hs0_0 T hT t) (ms0_1 T hT t) (hs0_1 T hT t) (ms0_2 T hT t) (hs0_2 T hT t) (ms0_3 T hT t) (hs0_3 T hT t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T hT).N) :
    iprop((dats T hT m ρ 0 c).Φ t.castSucc ∗ (dats T hT m ρ 0 c).owesAt () t.castSucc
        ∗ (∃ d, owns (c : Thread nD τ) (ms0_0 T hT t) fullShare ((dats T hT m ρ 0 c).before (0 : Fin 4) t d))
        ∗ (∃ d, owns (c : Thread nD τ) (ms0_1 T hT t) fullShare ((dats T hT m ρ 0 c).before (1 : Fin 4) t d))
        ∗ (∃ d, owns (c : Thread nD τ) (ms0_2 T hT t) fullShare ((dats T hT m ρ 0 c).before (2 : Fin 4) t d))
        ∗ (∃ d, owns (c : Thread nD τ) (ms0_3 T hT t) fullShare ((dats T hT m ρ 0 c).before (3 : Fin 4) t d)))
      ⊢ wp frame (wpE (defs₀ (F := Ideal)) Variants.none c none) Set.univ (bodyAt0 T hT t) fun _ =>
          iprop((dats T hT m ρ 0 c).Φ t.succ ∗ (dats T hT m ρ 0 c).owesAt () t.succ
            ∗ bigSep Finset.univ fun w : Fin (cfgA T hT).W =>
                match (cfgA T hT).idle w ((cfgA T hT).grid.coords t) with
                | true =>
                  match ((cfgA T hT).win w).flush t with
                  | false => iprop(∃ d, owns (c : Thread nD τ) (((cfgA T hT).win w).stage ((cfgA T hT).slots t w)) fullShare ((dats T hT m ρ 0 c).before w t d))
                  | true => owns (c : Thread nD τ) (((cfgA T hT).win w).stage ((cfgA T hT).slots t w)) fullShare ((dats T hT m ρ 0 c).after w t)
                | false => owns (c : Thread nD τ) (((cfgA T hT).win w).stage ((cfgA T hT).slots t w)) fullShare ((dats T hT m ρ 0 c).after w t)) := by
  rw [bigSep_W0]
  by_cases q0 : P0_0 T hT t
  · obtain ⟨i3, f3, fr3⟩ := sched0_A T hT t q0
    have k0_h1 := q0
    have k0_h2 := (cond2_words T (crd T hT t)).trans (live_first T hT t q0)
    rewrite [i3]
    simp only [before0_0, before0_1, before0_2, before0_3, after0_0, after0_1, after0_2, after0_3, f3]
    simp only [fr3, Bool.false_eq_true, ↓reduceIte]
    rewrite [show (dats T hT m ρ 0 c).Φ t.succ = Phi T hT m ρ c t.succ from rfl, show (dats T hT m ρ 0 c).Φ t.castSucc = Phi T hT m ρ c t.castSucc from rfl,
      show (dats T hT m ρ 0 c).owesAt () t.succ = (dats T hT m ρ 0 c).owesAt () t.castSucc from rfl]
    try rewrite [traj0_eq, step0_A T hT m ρ c t _ q0]
    unfold Phi; simp only [prev0T_castSucc, prev0T_succ, traj0_eq, step0_A T hT m ρ c t _ q0, Fin.val_castSucc, Fin.val_succ]
    iintro ⟨⟨HT0⟩, Ho, ⟨%d0, H0⟩, ⟨%d1, H1⟩, ⟨%d2, H2⟩, ⟨%d3, H3⟩⟩
    iapply ((kernelRun0_A c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_eq_canon _ _ _ (cover0_A_3 c _ _ _ _ _ _ _ _ _ _ _ _ _ k0_h1 k0_h2)).trans (out_A c _ _ _ _ _ _ _ _ _ _ _ _ _ k0_h1 k0_h2)
  · by_cases q1 : P0_1 T hT t
    · obtain ⟨i3, fr3⟩ := sched0_C T hT t q0 q1
      have k0_h1 := q0
      have k0_h2 := (cond2_words T (crd T hT t)).trans q1
      rewrite [i3]
      simp only [before0_0, before0_1, before0_2, before0_3, after0_0, after0_1, after0_2, after0_3]
      simp only [fr3, Bool.false_eq_true, ↓reduceIte]
      rewrite [show (dats T hT m ρ 0 c).Φ t.succ = Phi T hT m ρ c t.succ from rfl, show (dats T hT m ρ 0 c).Φ t.castSucc = Phi T hT m ρ c t.castSucc from rfl,
        show (dats T hT m ρ 0 c).owesAt () t.succ = (dats T hT m ρ 0 c).owesAt () t.castSucc from rfl]
      try rewrite [traj0_eq, step0_C T hT m ρ c t _ q0 q1]
      unfold Phi; simp only [prev0T_castSucc, prev0T_succ, traj0_eq, step0_C T hT m ρ c t _ q0 q1, Fin.val_castSucc, Fin.val_succ]
      iintro ⟨⟨HT0⟩, Ho, ⟨%d0, H0⟩, ⟨%d1, H1⟩, ⟨%d2, H2⟩, ⟨%d3, H3⟩⟩
      iapply ((kernelRun0_C c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) (prev0 T hT m ρ c t) k0_h1 k0_h2).2 _)
      isplitl [H0]; · iapply rep_of_owns; iexact H0
      isplitl [H1]; · iapply rep_of_owns; iexact H1
      isplitl [H2]; · iapply rep_of_owns; iexact H2
      isplitl [HT0]; · iexact HT0
      isplitl [H3]; · iexact H3
      iintro ⟨H0, H1, H2, HT0, ⟨%e3, H3⟩⟩
      isplitl [HT0]
      · iexact HT0
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_eq_canon _ _ _ (cover_C c _ _ _ _ _ _ _ _ _ _ _ _ _ _ k0_h1 k0_h2)).trans (out_C c _ _ _ _ _ _ _ _ _ _ _ _ _ _ k0_h1 k0_h2)
    · obtain ⟨i3, fr3⟩ := sched0_B T hT t q0 q1
      have k0_h1 := q0
      have k0_h2 := fun h => q1 ((cond2_words T (crd T hT t)).symm.trans h)
      cases f3 : ((cfgA T hT).win (3 : Fin 4)).flush t
      · rewrite [i3]
        simp only [before0_0, before0_1, before0_2, before0_3, after0_0, after0_1, after0_2, after0_3, f3]
        simp only [fr3, Bool.false_eq_true, ↓reduceIte]
        rewrite [show (dats T hT m ρ 0 c).Φ t.succ = Phi T hT m ρ c t.succ from rfl, show (dats T hT m ρ 0 c).Φ t.castSucc = Phi T hT m ρ c t.castSucc from rfl,
          show (dats T hT m ρ 0 c).owesAt () t.succ = (dats T hT m ρ 0 c).owesAt () t.castSucc from rfl]
        try rewrite [traj0_eq, step0_B T hT m ρ c t _ q0 q1]
        unfold Phi; simp only [prev0T_castSucc, prev0T_succ, traj0_eq, step0_B T hT m ρ c t _ q0 q1, Fin.val_castSucc, Fin.val_succ]
        iintro ⟨⟨HT0⟩, Ho, ⟨%d0, H0⟩, ⟨%d1, H1⟩, ⟨%d2, H2⟩, ⟨%d3, H3⟩⟩
        iapply ((kernelRun0_B c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _ _)
        isplitl [H0]; · iapply rep_of_owns; iexact H0
        isplitl [H1]; · iapply rep_of_owns; iexact H1
        isplitl [H2]; · iapply rep_of_owns; iexact H2
        isplitl [HT0]; · iexact HT0
        isplitl [H3]; · iexact H3
        iintro ⟨H0, H1, H2, HT0, H3⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        first | (iexists d3; iexact H3) | iexact H3
      · rewrite [i3]
        simp only [before0_0, before0_1, before0_2, before0_3, after0_0, after0_1, after0_2, after0_3, f3]
        simp only [fr3, Bool.false_eq_true, ↓reduceIte]
        rewrite [show (dats T hT m ρ 0 c).Φ t.succ = Phi T hT m ρ c t.succ from rfl, show (dats T hT m ρ 0 c).Φ t.castSucc = Phi T hT m ρ c t.castSucc from rfl,
          show (dats T hT m ρ 0 c).owesAt () t.succ = (dats T hT m ρ 0 c).owesAt () t.castSucc from rfl]
        try rewrite [traj0_eq, step0_B T hT m ρ c t _ q0 q1]
        unfold Phi; simp only [prev0T_castSucc, prev0T_succ, traj0_eq, step0_B T hT m ρ c t _ q0 q1, Fin.val_castSucc, Fin.val_succ, fr3, Bool.false_eq_true, ↓reduceIte]
        iintro ⟨⟨HT0⟩, Ho, ⟨%d0, H0⟩, ⟨%d1, H1⟩, ⟨%d2, H2⟩, ⟨%d3, H3⟩⟩
        iapply ((kernelRun0_B c (crd T hT t) (ms0_0 T hT t) (hs0_0 T hT t) (ms0_1 T hT t) (hs0_1 T hT t) (ms0_2 T hT t) (hs0_2 T hT t) (ms0_3 T hT t) (hs0_3 T hT t) (T) (iblk T hT m ρ c (0 : Fin 4) t) (iblk T hT m ρ c (1 : Fin 4) t) (iblk T hT m ρ c (2 : Fin 4) t) k0_h1 k0_h2).2 _ _)
        isplitl [H0]; · iapply rep_of_owns; iexact H0
        isplitl [H1]; · iapply rep_of_owns; iexact H1
        isplitl [H2]; · iapply rep_of_owns; iexact H2
        isplitl [HT0]; · iexact HT0
        isplitl [H3]; · iexact H3
        iintro ⟨H0, H1, H2, HT0, H3⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        first | (iexists d3; iexact H3) | iexact H3

/-- The library's body obligation, at every point. -/
theorem body_obligation (hp : Pinned T m) (c : Dev nD) : BodyObligation (dats T hT m ρ 0 c) (defs₀ (F := Ideal)) Variants.none () Set.univ := fun t => by
  rw [bigSep_W0]
  exact sound_body T hT m ρ hp c t

/-! ## The launch -/

/-- The rounds library's launch element. -/
def u₀ : UR sig nD τ :=
  initOf (Pipeline.cells (pcs T hT) ((launch0 (F := Ideal)).cellOf_inj fun _ => adm T hT))
    (Pipeline.launchToks (pcs T hT) ((launch0 (F := Ideal)).cellOf_inj fun _ => adm T hT))

theorem share_eq (c : Dev nD) (w : Fin (cfgA T hT).W) : (dats T hT m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm T hT).1 ∗ Pipeline.scopedRest spec0 c) ⊢ (dats T hT m ρ 0 c).Φ 0 := by
  rw [prefHeld_eq, scopedRest0_eq, show (dats T hT m ρ 0 c).Φ 0 = Phi T hT m ρ c 0 from rfl]
  unfold Phi
  iintro ⟨-, ⟨HT0⟩, -⟩
  iexact HT0

/-- at the last point it gives the scratch buffers back (`hout`), the tables let go. -/
theorem phiN_exit (c : Dev nD) : (dats T hT m ρ 0 c).Φ (Fin.last (cfgA T hT).N) ⊢ iprop(BI.emp ∗ Pipeline.scopedRest spec0 c) := by
  rw [scopedRest0_eq, show (dats T hT m ρ 0 c).Φ (Fin.last (cfgA T hT).N) = Phi T hT m ρ c (Fin.last _) from rfl]
  unfold Phi
  iintro ⟨-⟩
  isplitr; · iempintro
  iempintro

/-- The physical post: every array at what the library computes, every table at what the pipeline ran at. -/
def QC : PUnit × MemSt nD τ sig (Elt Ideal) → Prop := fun r =>
  ∀ c : Dev nD, (∀ w : Fin (cfgA T hT).W, r.2.mem (((cfgA T hT).win w).arr.view.loc (c : Thread nD τ)) = (dats T hT m ρ 0 c).arrAt w (cfgA T hT).N)
    ∧ ∀ j, r.2.mem ((c : Thread nD τ).loc (pre0.ref j)) = (adm T hT).1 j

theorem V_pre (hp : Pinned T m) (c : Dev nD) (j : Fin 1) : m ((c : Thread nD τ).loc (pre0.ref j)) = (adm T hT).1 j := by
  fin_cases j
  · exact hp c

set_option backward.isDefEq.respectTransparency.types false in
set_option maxHeartbeats 4000000 in
/-- From any memory with zero counters whose table is `T`, every weakly fair execution ends with every array at what the
    pipeline's proof data hold after the last point, and every counter at zero. -/
theorem run_main_quiescent (hp : Pinned T m) : θ_run (defs (F := Ideal)) (onTc (τ := τ) (main (F := Ideal))) (s₀ m ρ) (fun r => QC T hT m ρ r ∧ r.2.sem = fun _ => 0) :=
  Pipeline.θ_run_region_noSem_pf_quiescent pcfgs (fun _ => adm T hT) (dats T hT m ρ) () ((launch0 (F := Ideal)).cellOf_inj fun _ => adm T hT) (0 : Fin 1)
    (launch0 (F := Ideal)).win.to₀ (launch0 (F := Ideal)).pre EP defs₀ Variants.none m ρ main
    (hbody := fun c => (body_obligation T hT m ρ hp c).loose) (hne := (launch0 (F := Ideal)).block_pos)
    (harr := (launch0 (F := Ideal)).arr_whole) (hstage := (launch0 (F := Ideal)).stage_whole) (howed := fun _ _ => rfl)
    (u₀ := u₀ T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m ρ) 0 (launch0 (F := Ideal)).win.arr_inj c (launch0 (F := Ideal)).arr_whole
      (share_eq T hT m ρ c) _ _ fun _ => rfl)
    (hpf := V_pre T hT m hp)
    (X := fun _ => iprop(emp)) (Y := fun _ => iprop(emp)) (Z := fun _ => iprop(emp))
    (hX := fun c => by rw [unscopedRestP0_eq]; iintro -; isplitr <;> iempintro)
    (hin := phi0_intro T hT m ρ)
    (hout := phiN_exit T hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Ideal)) (onTc (τ := τ) (main (F := Ideal))) (s₀ m ρ) (QC T hT m ρ) :=
  (θ_run defs _ _).mono (fun _ h => h.1) (run_main_quiescent T hT m ρ hp)

include hT in
/-- `frame` without the counters: the argument arrays end unchanged. -/
theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 4)).trans ((dats T hT m ρ 0 c).arrAt_in (0 : Fin 4) rfl _), ((h c).2 0).trans (hp c).symm, ((h c).1 (1 : Fin 4)).trans ((dats T hT m ρ 0 c).arrAt_in (1 : Fin 4) rfl _), ((h c).1 (2 : Fin 4)).trans ((dats T hT m ρ 0 c).arrAt_in (2 : Fin 4) rfl _)⟩) (run_main T hT m ρ hp)

include hT in
/-- THE FRAME at a sorted table: every weakly fair execution terminates, nothing faults, every argument array ends unchanged
    and every semaphore counter reads zero. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T hT m ρ hp) ((θ_run defs _ _).mono (fun _ h => h.2) (run_main_quiescent T hT m ρ hp))

end Cert.KernelIdeal.Table

end
-- ==== Proof.Segments.lean ====
/- THE MATHEMATICS, without a program: the leaky rectifier of a row's linear layer, its sum over the rows of a segment, and why
   the sum over the blocks of 8192 rows from the first to the last is the sum over all rows. -/
module

public import proofs.«01_k».proof.Proof.Words
public import Mathlib.Data.EReal.Operations
public import Mathlib.Algebra.BigOperators.Fin

@[expose] public section

noncomputable section

namespace Cert.Segments

open Cert.Words

/-- The slope of the rectifier left of zero: the single-precision number nearest 0.2. -/
def slope : EReal := ((13421773 / 67108864 : ℝ) : EReal)

/-- The leaky rectifier, written as the greater of a number and its multiple. -/
def leaky (z : EReal) : EReal := max z (slope * z)

theorem slope_nonneg : (0 : EReal) ≤ slope := by
  unfold slope; exact_mod_cast (by norm_num : (0 : ℝ) ≤ 13421773 / 67108864)

/-- A positive number is left alone. -/
theorem leaky_of_pos {z : EReal} (h : 0 < z) : leaky z = z := by
  refine max_eq_left ?_
  have h1 : slope ≤ 1 := by unfold slope; exact_mod_cast (by norm_num : (13421773 / 67108864 : ℝ) ≤ 1)
  calc slope * z ≤ 1 * z := mul_le_mul_of_nonneg_right h1 h.le
    _ = z := one_mul z

/-- A number that is not positive is multiplied by the slope. -/
theorem leaky_of_nonpos {z : EReal} (h : ¬0 < z) : leaky z = slope * z := by
  refine max_eq_right ?_
  have hz : z ≤ 0 := not_lt.1 h
  induction z using EReal.rec with
  | bot => exact bot_le
  | top => exact absurd hz (by simp)
  | coe r =>
    have hr : r ≤ 0 := by exact_mod_cast hz
    unfold slope
    rw [← EReal.coe_mul]
    exact_mod_cast (by nlinarith : r ≤ 13421773 / 67108864 * r)

/-- A row's entry after the linear layer and the rectifier: `x` the row, `w` the weights of the entry, `b` its offset. -/
def entry (x w : Fin 256 → EReal) (b : EReal) : EReal := leaky ((∑ k, x k * w k) + b)

/-- Whether a row belongs to segment `s` of a table. -/
def inSeg (w : Fin 17 → BitVec 32) (s : Fin 16) (p : ℕ) : Prop := (w s.castSucc).toNat ≤ p ∧ p < (w s.succ).toNat

instance (w : Fin 17 → BitVec 32) (s : Fin 16) (p : ℕ) : Decidable (inSeg w s p) := by unfold inSeg; infer_instance

/-- What row `p` adds to segment `s`. -/
def term (w : Fin 17 → BitVec 32) (s : Fin 16) (g : ℕ → EReal) (p : ℕ) : EReal := if inSeg w s p then g p else 0

/-- A sum over 32768 rows, block by block of 8192. -/
theorem sum_blocks (f : ℕ → EReal) :
    ∑ p ∈ Finset.range 32768, f p = ∑ j ∈ Finset.range 4, ∑ r ∈ Finset.range 8192, f (j * 8192 + r) := by
  rw [show 32768 = 4 * 8192 from rfl, Finset.sum_range, ← finProdFinEquiv.sum_comp, Fintype.sum_prod_type, Finset.sum_range]
  refine Finset.sum_congr rfl fun j _ => ?_
  rw [Finset.sum_range]
  refine Finset.sum_congr rfl fun r _ => congrArg f ?_
  simp [finProdFinEquiv]; omega

/-- A sum over four blocks of which only those from `a` to `l` hold anything, taken from `a` on. -/
theorem sum_from (B : ℕ → EReal) {a l : ℕ} (hal : a ≤ l) (hl : l ≤ 3) (h0 : ∀ j, j < a ∨ l < j → B j = 0) :
    ∑ t ∈ Finset.range 4, (if a + t ≤ l then B (a + t) else 0) = ∑ j ∈ Finset.range 4, B j := by
  rw [← Finset.sum_filter]
  refine (Finset.sum_image (g := fun t => a + t) (s := (Finset.range 4).filter fun t => a + t ≤ l) (f := B)
    (fun x _ y _ h => Nat.add_left_cancel h)).symm.trans ?_
  refine Finset.sum_subset (fun j hj => ?_) fun j _ hj => h0 j ?_
  · obtain ⟨t, ht, rfl⟩ := Finset.mem_image.1 hj
    have := (Finset.mem_filter.1 ht).2
    simp only [Finset.mem_range]; omega
  · by_contra hc
    refine hj (Finset.mem_image.2 ⟨j - a, Finset.mem_filter.2 ⟨Finset.mem_range.2 ?_, ?_⟩, ?_⟩) <;> omega

/-- The rows of a segment lie in the blocks from the first pointer's to the last row's: summing those blocks sums all rows. -/
theorem sum_live {w : Fin 17 → BitVec 32} (hw : Sorted w) (s : Fin 16) (g : ℕ → EReal) :
    ∑ t ∈ Finset.range 4, (if (w 0).toNat / 8192 + t ≤ max ((w 16).toNat - 1) (w 0).toNat / 8192 then
        ∑ r ∈ Finset.range 8192, term w s g (((w 0).toNat / 8192 + t) * 8192 + r) else 0)
      = ∑ p ∈ Finset.range 32768, term w s g p := by
  have h0 := hw.lt 0
  have h16 := hw.lt 16
  have hlo : (w 0).toNat ≤ (w s.castSucc).toNat := hw.monotone (Fin.zero_le _)
  have hhi : (w s.succ).toNat ≤ (w 16).toNat := hw.monotone (Fin.le_last _)
  rw [sum_blocks, ← sum_from (fun j => ∑ r ∈ Finset.range 8192, term w s g (j * 8192 + r))
    (a := (w 0).toNat / 8192) (l := max ((w 16).toNat - 1) (w 0).toNat / 8192)
    (Nat.div_le_div_right (le_max_right _ _)) (by omega)]
  intro j hj
  refine Finset.sum_eq_zero fun r hr => if_neg fun hs => ?_
  have hr' := Finset.mem_range.1 hr
  obtain ⟨h1, h2⟩ := hs
  omega

end Cert.Segments

end
-- ==== Proof.KernelIdeal.Payload.lean ====
/- ONE GRID POINT'S STEP at an entry: the point adds, to what the output buffer held at segment `s` and column `e`, the rectified
   entries of the rows of its block that lie in segment `s`. -/
module

public import proofs.«01_k».proof.Proof.KernelIdeal.Body
public import proofs.«01_k».proof.Proof.Segments
public import Idealize.ShloMosaic.PureOps.Ideal.Laws

@[expose] public section

set_option maxRecDepth 16384

noncomputable section

namespace Cert.KernelIdeal.Table

open Cert.KernelIdeal Cert.KernelIdeal.Gen Cert.Words Cert.Segments
open Idealize.ShloMosaic Idealize.ShloMosaic.ValueIdx

/-! ## The two contractions -/

abbrev dRow : DotDims S8192x256 S256x256 S8192x256 := dot_S8192x256_S256x256_S8192x256_1_1_0_0_n_n
abbrev dSeg : DotDims S16x8192 S8192x256 S16x256 := dot_S16x8192_S8192x256_S16x256_1_0_0_1_n_n

theorem row_lhs (j : S8192x256.Idx) (k : Fin 256) : dRow.lhsIdx j ((contrEquiv1 dRow 256 rfl rfl).symm k) = ix2 (j 0) k := by
  refine funext fun a => Fin.ext ?_
  match a with
  | ⟨0, _⟩ =>
    show (dRow.lhsIdx j _ 0).val = (j 0).val
    unfold DotDims.lhsIdx
    rw [dif_neg (show ¬(0 : Fin S8192x256.rank) ∈ dRow.lhsBatch by decide), dif_pos (show (0 : Fin S8192x256.rank) ∈ dRow.lhsNonContracting by decide)]
    rfl
  | ⟨1, _⟩ => exact (dRow.lhsIdx_val_of_single rfl j _).trans (contrEquiv1_symm_val dRow 256 rfl rfl k)

theorem row_rhs (j : S8192x256.Idx) (k : Fin 256) : dRow.rhsIdx j ((contrEquiv1 dRow 256 rfl rfl).symm k) = ix2 (j 1) k := by
  refine funext fun a => Fin.ext ?_
  match a with
  | ⟨0, _⟩ =>
    show (dRow.rhsIdx j _ 0).val = (j 1).val
    unfold DotDims.rhsIdx
    rw [dif_neg (show ¬(0 : Fin S256x256.rank) ∈ dRow.rhsBatch by decide), dif_pos (show (0 : Fin S256x256.rank) ∈ dRow.rhsNonContracting by decide)]
    rfl
  | ⟨1, _⟩ => exact (dRow.rhsIdx_val_of_single rfl j _).trans (contrEquiv1_symm_val dRow 256 rfl rfl k)

theorem seg_lhs (j : S16x256.Idx) (k : Fin 8192) : dSeg.lhsIdx j ((contrEquiv1 dSeg 8192 rfl rfl).symm k) = ix2 (j 0) k := by
  refine funext fun a => Fin.ext ?_
  match a with
  | ⟨0, _⟩ =>
    show (dSeg.lhsIdx j _ 0).val = (j 0).val
    unfold DotDims.lhsIdx
    rw [dif_neg (show ¬(0 : Fin S16x8192.rank) ∈ dSeg.lhsBatch by decide), dif_pos (show (0 : Fin S16x8192.rank) ∈ dSeg.lhsNonContracting by decide)]
    rfl
  | ⟨1, _⟩ => exact (dSeg.lhsIdx_val_of_single rfl j _).trans (contrEquiv1_symm_val dSeg 8192 rfl rfl k)

theorem seg_rhs (j : S16x256.Idx) (k : Fin 8192) : dSeg.rhsIdx j ((contrEquiv1 dSeg 8192 rfl rfl).symm k) = ix2 k (j 1) := by
  refine funext fun a => Fin.ext ?_
  match a with
  | ⟨0, _⟩ => exact (dSeg.rhsIdx_val_of_single rfl j _).trans (contrEquiv1_symm_val dSeg 8192 rfl rfl k)
  | ⟨1, _⟩ =>
    show (dSeg.rhsIdx j _ 1).val = (j 1).val
    unfold DotDims.rhsIdx
    rw [dif_neg (show ¬(1 : Fin S8192x256.rank) ∈ dSeg.rhsBatch by decide), dif_pos (show (1 : Fin S8192x256.rank) ∈ dSeg.rhsNonContracting by decide)]
    rfl

/-! ## The rectified rows -/

theorem pay3_apply (x : S8192x256.Idx → EReal) (w : S256x256.Idx → EReal) (b : S256.Idx → EReal) (r : Fin 8192) (e : Fin 256) :
    k0_pay3 (F := Ideal) x w b (ix2 r e) = entry (fun k => x (ix2 r k)) (fun k => w (ix2 e k)) (b (ix1 e)) := by
  have hm : FloatOps.matmul (F := Ideal) (φ₁ := .bf16) (φ₂ := .bf16) dRow none x w (constant S8192x256 .f32 0x00000000#32) (ix2 r e)
      = ∑ k : Fin 256, x (ix2 r k) * w (ix2 e k) := by
    rw [Ideal.matmul_constant_zero_apply, ← Equiv.sum_comp (contrEquiv1 dRow 256 rfl rfl).symm]
    refine Finset.sum_congr rfl fun k _ => ?_
    rw [show dRow.lhsIdx (ix2 r e) ((contrEquiv1 dRow 256 rfl rfl).symm k) = ix2 r k from row_lhs _ k,
      show dRow.rhsIdx (ix2 r e) ((contrEquiv1 dRow 256 rfl rfl).symm k) = ix2 e k from row_rhs _ k]
  have hb : broadcastTo S8192x256 (shapeCast S1x256 b shapeCasts_S256_S1x256) broadcasts_S1x256_S8192x256 (ix2 r e) = b (ix1 e) := by
    rw [broadcastTo_apply _ _ (ix2 r e) (ix2 (0 : Fin 1) e) (fun a => by match a with | ⟨0, _⟩ => rfl | ⟨1, _⟩ => rfl)]
    refine shapeCast_apply _ _ _ _ ?_
    rw [Shape.rowMajor_val_one, Shape.rowMajor_val_two]
    show e.val = 0 * 256 + e.val
    omega
  have hn : Named.named (F := Ideal) (φ := .bf16) κ "slope" 0x3E4D#16 = Segments.slope :=
    IdealRules.named_const.ideal_named_scalar κ "slope" _ Segments.slope rfl
  unfold entry leaky
  rw [← hm, ← hb, ← hn]
  rfl

/-! ## The segments' ends -/

theorem ends_apply (f : Fin 16 → BitVec 32) (h : Shape.Concatenates ((List.ofFn fun n : Fin 16 => (⟨S1, broadcast S1 (f n)⟩ : (s : Shape) × (s.Idx → BitVec 32))).map (·.1)) S16 0) (s : Fin 16) :
    concatenate S16 0 (List.ofFn fun n : Fin 16 => (⟨S1, broadcast S1 (f n)⟩ : (s : Shape) × (s.Idx → BitVec 32))) h (ix1 s) = f s :=
  concatenate_ofFn_unit_apply (0 : Fin S16.rank) (fun n => broadcast S1 (f n)) h rfl rfl (ix1 s) s rfl (ix1 0)
    (fun b hb => absurd (Fin.ext (by have := b.isLt; simp at this ⊢)) hb)

theorem col_apply (v : S16.Idx → BitVec 32) (s : Fin 16) (r : Fin 8192) :
    broadcastTo S16x8192 (shapeCast S16x1 v shapeCasts_S16_S16x1) broadcasts_S16x1_S16x8192 (ix2 s r) = v (ix1 s) := by
  rw [broadcastTo_apply _ _ (ix2 s r) (ix2 s (0 : Fin 1)) (fun a => by match a with | ⟨0, _⟩ => rfl | ⟨1, _⟩ => rfl)]
  refine shapeCast_apply _ _ _ _ ?_
  rw [Shape.rowMajor_val_one, Shape.rowMajor_val_two]
  show s.val = s.val * 1 + 0
  omega

variable (T : S17.Idx → BitVec 32)

theorem starts_apply (s : Fin 16) (r : Fin 8192) :
    broadcastTo S16x8192 (k0_pay11 (F := Ideal) (wd T 7) (wd T 8) (wd T 9) (wd T 10) (wd T 11) (wd T 12) (wd T 13) (wd T 14) (wd T 15)
      (k0_pay4 (F := Ideal) (wd T 0)) (k0_pay5 (F := Ideal) (wd T 1)) (k0_pay6 (F := Ideal) (wd T 2)) (k0_pay7 (F := Ideal) (wd T 3))
      (k0_pay8 (F := Ideal) (wd T 4)) (k0_pay9 (F := Ideal) (wd T 5)) (k0_pay10 (F := Ideal) (wd T 6))) broadcasts_S16x1_S16x8192 (ix2 s r)
      = wd T s.castSucc := by
  unfold k0_pay11 k0_pay10 k0_pay9 k0_pay8 k0_pay7 k0_pay6 k0_pay5 k0_pay4
  dsimp only
  exact (col_apply _ s r).trans (ends_apply (fun n => wd T n.castSucc) _ s)

theorem stops_apply (s : Fin 16) (r : Fin 8192) :
    broadcastTo S16x8192 (shapeCast S16x1 (k0_pay12 (F := Ideal) (wd T 1) (wd T 2) (wd T 3) (wd T 4) (wd T 5) (wd T 6) (wd T 7) (wd T 8) (wd T 9)
      (wd T 10) (wd T 11) (wd T 12) (wd T 13) (wd T 14) (wd T 15) (wd T 16)) shapeCasts_S16_S16x1) broadcasts_S16x1_S16x8192 (ix2 s r)
      = wd T s.succ := by
  unfold k0_pay12
  dsimp only
  exact (col_apply _ s r).trans (ends_apply (fun n => wd T n.succ) _ s)

/-! ## The segment of a row as a number -/

/-- The word the kernel makes of a row's number. -/
theorem row_word {a : BitVec 32} (ha : a.toNat < 32768) {i : ℕ} (hi : i < 4) (r : Fin 8192) :
    (IntOp.addi (Scalar.muli (blk a i) 8192#32) (BitVec.ofNat 32 r.val)).toNat = (a.toNat / 8192 + i) * 8192 + r.val := by
  have h := blk_toNat ha hi
  have hr := r.isLt
  simp only [IntOp.addi, Scalar.muli, IntOp.muli, BitVec.toNat_add, BitVec.toNat_mul, h, BitVec.toNat_ofNat]
  omega

theorem one_bit (x : BitVec 1) : ((((x.setWidth 32 : BitVec 32).toInt : ℤ) : ℝ) : EReal) = if x = 1#1 then 1 else 0 := by
  have h : ∀ x : BitVec 1, (x.setWidth 32 : BitVec 32).toInt = if x = 1#1 then 1 else 0 := by decide
  rw [h]; split <;> simp

theorem between_iff {p lo hi : BitVec 32} (hp : p.toNat < 2 ^ 31) (hl : lo.toNat < 2 ^ 31) (hh : hi.toNat < 2 ^ 31) :
    IntOp.andi (IntOp.cmpi .sge p lo) (IntOp.cmpi .slt p hi) = 1#1 ↔ lo.toNat ≤ p.toNat ∧ p.toNat < hi.toNat := by
  rw [IntOp.andi_eq_one, StableHlo.Predicate.sge_iff_toNat hp hl, StableHlo.Predicate.slt_iff_toNat hp hh]

/-- A LIVE POINT'S STEP at an entry. -/
theorem stepV_apply (hT : Sorted (wd T)) (i : grid0.Coords) (hi : (i 0).val < 4) (x0 : S8192x256.Idx → EReal) (x1 : S256x256.Idx → EReal)
    (x2 : S256.Idx → EReal) (acc : S16x256.Idx → EReal) (s : Fin 16) (e : Fin 256) :
    stepV T i x0 x1 x2 acc (ix2 s e) = acc (ix2 s e)
      + ∑ r : Fin 8192, if inSeg (wd T) s (((wd T 0).toNat / 8192 + (i 0).val) * 8192 + r.val)
          then entry (fun k => x0 (ix2 r k)) (fun k => x1 (ix2 e k)) (x2 (ix1 e)) else 0 := by
  unfold stepV k0_pay2
  dsimp only
  have hlt : ∀ k, (wd T k).toNat < 2 ^ 31 := fun k => lt_trans (hT.lt k) (by norm_num)
  refine congrArg₂ (· + ·) (congrFun (shapeCast_self acc _) _) ?_
  refine (Ideal.matmul_constant_zero_apply dSeg none _ _ (ix2 s e)).trans ?_
  rw [← Equiv.sum_comp (contrEquiv1 dSeg 8192 rfl rfl).symm]
  refine Finset.sum_congr rfl fun r _ => ?_
  rw [show dSeg.lhsIdx (ix2 s e) ((contrEquiv1 dSeg 8192 rfl rfl).symm r) = ix2 s r from seg_lhs _ r,
    show dSeg.rhsIdx (ix2 s e) ((contrEquiv1 dSeg 8192 rfl rfl).symm r) = ix2 r e from seg_rhs _ r]
  refine (congrArg₂ (· * ·) (one_bit _) (pay3_apply x0 x1 x2 r e)).trans ?_
  have hr := row_word (hT.lt 0) hi r
  have h31 : (IntOp.addi (Scalar.muli (blk (wd T 0) (i 0).val) 8192#32) (BitVec.ofNat 32 r.val)).toNat < 2 ^ 31 := by
    have := hT.lt 0; have := r.isLt; rw [hr]; omega
  have hb := between_iff h31 (hlt s.castSucc) (hlt s.succ)
  rw [hr] at hb
  have hx : ∀ (c : BitVec 1), (c = 1#1 ↔ inSeg (wd T) s (((wd T 0).toNat / 8192 + (i 0).val) * 8192 + r.val)) →
      (if c = 1#1 then (1 : EReal) else 0) * entry (fun k => x0 (ix2 r k)) (fun k => x1 (ix2 e k)) (x2 (ix1 e))
        = if inSeg (wd T) s (((wd T 0).toNat / 8192 + (i 0).val) * 8192 + r.val) then entry (fun k => x0 (ix2 r k)) (fun k => x1 (ix2 e k)) (x2 (ix1 e)) else 0 := by
    intro c hc
    by_cases h : inSeg (wd T) s (((wd T 0).toNat / 8192 + (i 0).val) * 8192 + r.val)
    · rw [if_pos (hc.2 h), if_pos h, one_mul]
    · rw [if_neg (fun h' => h (hc.1 h')), if_neg h, zero_mul]
  refine hx _ ?_
  refine Iff.trans (Eq.congr_left ?_) hb
  show IntOp.andi (IntOp.cmpi .sge (IntOp.addi _ _) _) (IntOp.cmpi .slt (IntOp.addi _ _) _) = _
  rw [iota_single_apply]
  exact congrArg₂ IntOp.andi (congrArg (IntOp.cmpi .sge _) (starts_apply T s r)) (congrArg (IntOp.cmpi .slt _) (stops_apply T s r))

end Cert.KernelIdeal.Table

end
-- ==== Proof.KernelIdeal.Value.lean ====
/- WHAT THE KERNEL LEAVES IN ITS RESULT ARRAY: at segment `s` and column `e`, the sum over all rows of the row's rectified entry,
   if the row lies in segment `s`, and zero otherwise. -/
module

public import proofs.«01_k».proof.Proof.KernelIdeal.Payload
public import proofs.«01_k».proof.Proof.KernelIdeal.Run

@[expose] public section

set_option maxRecDepth 16384

noncomputable section

namespace Cert.KernelIdeal.Table

open Cert.KernelIdeal Cert.KernelIdeal.Gen Cert.Words Cert.Segments
open Idealize.ShloMosaic Idealize.ShloMosaic.ValueIdx
open Idealize.ShloMosaic.TcCoe Idealize.SL.Sem
open Idealize.ShloMosaic.Pipeline (Dat)

/-- The rectified entry of row `p` at column `e`, and zero past the last row. -/
def rowEntry (X : S32768x256.Idx → EReal) (W : S256x256.Idx → EReal) (B : S256.Idx → EReal) (e : Fin 256) (p : ℕ) : EReal :=
  if h : p < 32768 then entry (fun k => X (ix2 ⟨p, h⟩ k)) (fun k => W (ix2 e k)) (B (ix1 e)) else 0

/-- The sum of a segment's rectified rows. -/
def total (w : Fin 17 → BitVec 32) (X : S32768x256.Idx → EReal) (W : S256x256.Idx → EReal) (B : S256.Idx → EReal) (s : Fin 16) (e : Fin 256) : EReal :=
  ∑ p ∈ Finset.range 32768, term w s (rowEntry X W B e) p

variable (T : S17.Idx → BitVec 32) (hT : Sorted (wd T))
variable (m : (ℓ : Loc nD τ sig) → Buf (Elt Ideal) ℓ) (ρ : Dev nD → PrngReg)

/-- The first block, and the last. -/
abbrev fst : ℕ := (wd T 0).toNat / 8192
abbrev lst : ℕ := max ((wd T 16).toNat - 1) (wd T 0).toNat / 8192

/-- The launch arrays. -/
abbrev arX (c : Dev nD) : S32768x256.Idx → EReal := m ((c : Thread nD τ).loc main_arg0)
abbrev arW (c : Dev nD) : S256x256.Idx → EReal := m ((c : Thread nD τ).loc main_arg2)
abbrev arB (c : Dev nD) : S256.Idx → EReal := m ((c : Thread nD τ).loc main_arg3)

/-! ## The windows' blocks -/

theorem index_0 (t : Fin (cfgA T hT).N) :
    ((cfgA T hT).win (0 : Fin 4)).index t (0 : Fin 2) = min (fst T + t.val) (lst T) ∧ ((cfgA T hT).win (0 : Fin 4)).index t (1 : Fin 2) = 0 := by
  have h := transform_word T (crd T hT t)
  have h0 : ((cfgA T hT).win (0 : Fin 4)).index t (0 : Fin 2) = _ := congrFun h 0
  have h1 : ((cfgA T hT).win (0 : Fin 4)).index t (1 : Fin 2) = _ := congrFun h 1
  refine ⟨h0.trans ?_, h1⟩
  show (Scalar.minsi (blk (wd T 0) ((crd T hT t) 0).val) (lastBlk (wd T 0) (wd T 16))).toNat = _
  rw [fetched_toNat (hT.lt 0) (hT.lt 16) (coord_lt _), crd_val]

theorem iblk_0 (c : Dev nD) (t : Fin (cfgA T hT).N) (hl : fst T + t.val ≤ lst T) (r : Fin 8192) (k : Fin 256) (h : (fst T + t.val) * 8192 + r.val < 32768) :
    (iblk T hT m ρ c (0 : Fin 4) t : S8192x256.Idx → EReal) (ix2 r k) = arX m c (ix2 ⟨(fst T + t.val) * 8192 + r.val, h⟩ k) := by
  have hi := index_0 T hT t
  rw [min_eq_left hl] at hi
  unfold iblk
  rw [View.read_apply]
  show m (c.tc.loc main_arg0) _ = m (c.tc.loc main_arg0) _
  congr 1
  funext a
  apply Fin.ext
  match a with
  | ⟨0, _⟩ => show ((cfgA T hT).win (0 : Fin 4)).index t (0 : Fin 2) * 8192 + 1 * r.val = (fst T + t.val) * 8192 + r.val; rw [hi.1]; omega
  | ⟨1, _⟩ => show ((cfgA T hT).win (0 : Fin 4)).index t (1 : Fin 2) * 256 + 1 * k.val = k.val; rw [hi.2]; omega

theorem iblk_1 (c : Dev nD) (t : Fin (cfgA T hT).N) (e k : Fin 256) :
    (iblk T hT m ρ c (1 : Fin 4) t : S256x256.Idx → EReal) (ix2 e k) = arW m c (ix2 e k) := by
  unfold iblk
  rw [View.read_apply]
  show m (c.tc.loc main_arg2) _ = m (c.tc.loc main_arg2) _
  congr 1
  funext a
  apply Fin.ext
  match a with
  | ⟨0, _⟩ => show 0 * 256 + 1 * e.val = e.val; omega
  | ⟨1, _⟩ => show 0 * 256 + 1 * k.val = k.val; omega

theorem iblk_2 (c : Dev nD) (t : Fin (cfgA T hT).N) (e : Fin 256) :
    (iblk T hT m ρ c (2 : Fin 4) t : S256.Idx → EReal) (ix1 e) = arB m c (ix1 e) := by
  unfold iblk
  rw [View.read_apply]
  show m (c.tc.loc main_arg3) _ = m (c.tc.loc main_arg3) _
  congr 1
  funext a
  apply Fin.ext
  match a with
  | ⟨0, _⟩ => show 0 * 256 + 1 * e.val = e.val; omega

/-! ## The steps -/

include hT in
theorem lst_lt : lst T ≤ 3 := by
  have h0 := hT.lt 0
  have h1 := hT.lt 16
  unfold lst; omega

/-- What a point adds at an entry: its block's part of the segment's sum, and nothing past the last block. -/
def part (c : Dev nD) (s : Fin 16) (e : Fin 256) (t : ℕ) : EReal :=
  if fst T + t ≤ lst T then ∑ r ∈ Finset.range 8192, term (wd T) s (rowEntry (arX m c) (arW m c) (arB m c) e) ((fst T + t) * 8192 + r) else 0

/-- A live point adds its part. -/
theorem live_step (c : Dev nD) (t : Fin (cfgA T hT).N) (q1 : P0_1 T hT t) (acc : S16x256.Idx → EReal) (s : Fin 16) (e : Fin 256) :
    stepV T (crd T hT t) (iblk T hT m ρ c (0 : Fin 4) t) (iblk T hT m ρ c (1 : Fin 4) t) (iblk T hT m ρ c (2 : Fin 4) t) acc (ix2 s e)
      = acc (ix2 s e) + part T m c s e t.val := by
  have hl : fst T + t.val ≤ lst T := by
    have h := (live_iff (hT.lt 0) (hT.lt 16) (coord_lt (crd T hT t))).1 q1
    rwa [crd_val] at h
  have h3 := lst_lt T hT
  refine (stepV_apply T hT (crd T hT t) (coord_lt _) _ _ _ acc s e).trans ?_
  unfold part
  rw [if_pos hl, Finset.sum_range, crd_val]
  refine congrArg (acc (ix2 s e) + ·) (Finset.sum_congr rfl fun r _ => ?_)
  have hr : (fst T + t.val) * 8192 + r.val < 32768 := by have := r.isLt; omega
  unfold term rowEntry
  rw [dif_pos hr]
  refine if_congr Iff.rfl ?_ rfl
  have hx : (fun k => (iblk T hT m ρ c (0 : Fin 4) t : S8192x256.Idx → EReal) (ix2 r k)) = fun k => arX m c (ix2 ⟨(fst T + t.val) * 8192 + r.val, hr⟩ k) :=
    funext fun k => iblk_0 T hT m ρ c t hl r k hr
  have hw : (fun k => (iblk T hT m ρ c (1 : Fin 4) t : S256x256.Idx → EReal) (ix2 e k)) = fun k => arW m c (ix2 e k) :=
    funext fun k => iblk_1 T hT m ρ c t e k
  have hb := iblk_2 T hT m ρ c t e
  exact congr (congrArg₂ entry hx hw) hb

theorem pay1_apply (j : S16x256.Idx) : k0_pay1 (F := Ideal) j = (0 : EReal) := Ideal.ofBits_zero_f32

/-- After point `n` the buffer holds the parts of the points up to `n`. -/
theorem traj_apply (c : Dev nD) (s : Fin 16) (e : Fin 256) : ∀ (n : ℕ) (h : n < (cfgA T hT).N),
    traj0 T hT m ρ c n h (ix2 s e) = ∑ t ∈ Finset.range (n + 1), part T m c s e t
  | 0, h => by
    have q0 : P0_0 T hT ⟨0, h⟩ := (first_iff T hT ⟨0, h⟩).2 rfl
    show step0 T hT m ρ c ⟨0, h⟩ default (ix2 s e) = _
    rw [step0_A T hT m ρ c ⟨0, h⟩ _ q0, live_step T hT m ρ c ⟨0, h⟩ (live_first T hT _ q0)]
    rw [pay1_apply, zero_add, Finset.sum_range_one]
  | n + 1, h => by
    have q0 : ¬P0_0 T hT ⟨n + 1, h⟩ := fun hq => Nat.succ_ne_zero n ((first_iff T hT ⟨n + 1, h⟩).1 hq)
    show step0 T hT m ρ c ⟨n + 1, h⟩ (traj0 T hT m ρ c n (Nat.lt_of_succ_lt h)) (ix2 s e) = _
    rw [Finset.sum_range_succ, ← traj_apply c s e n (Nat.lt_of_succ_lt h)]
    by_cases q1 : P0_1 T hT ⟨n + 1, h⟩
    · rw [step0_C T hT m ρ c ⟨n + 1, h⟩ _ q0 q1, live_step T hT m ρ c ⟨n + 1, h⟩ q1]
    · rw [step0_B T hT m ρ c ⟨n + 1, h⟩ _ q0 q1]
      have hl : ¬fst T + (n + 1) ≤ lst T := fun hl => q1 (by
        refine (live_iff (hT.lt 0) (hT.lt 16) (coord_lt (crd T hT ⟨n + 1, h⟩))).2 ?_
        rw [crd_val]; exact hl)
      unfold part
      rw [if_neg hl, add_zero]

/-- The result array. -/
def result (c : Dev nD) : S16x256.Idx → EReal := fun j => total (wd T) (arX m c) (arW m c) (arB m c) (j 0) (j 1)

/-- After the last point the buffer holds the segments' sums. -/
theorem traj_last (c : Dev nD) (h : 3 < (cfgA T hT).N) : traj0 T hT m ρ c 3 h = result T m c := by
  funext j
  obtain ⟨s, e, rfl⟩ : ∃ s e, j = ix2 s e := ⟨j 0, j 1, eq_ix2 j⟩
  rw [traj_apply]
  exact sum_live hT s _

/-! ## The result array -/

theorem flushed_last (c : Dev nD) (t : Fin (cfgA T hT).N) (hf : ((cfgA T hT).win (3 : Fin 4)).flush t = true) :
    (dats T hT m ρ 0 c).flushed (3 : Fin 4) t = (((cfgA T hT).win (3 : Fin 4)).blk t).view.read (Elt Ideal) (result T m c : Buf (Elt Ideal) ((c : Thread nD τ).loc main_v0)) := by
  have h3 : t.val = 3 := of_decide_eq_true ((flush_eq T hT t).symm.trans hf)
  obtain rfl : t = t0_3 := Fin.ext h3
  show ((cfgA T hT).win (3 : Fin 4)).cut (grid0.coords t0_3) ((dats T hT m ρ 0 c).after (3 : Fin 4) t0_3) = _
  rw [after0_3]
  have hz' : (fun a => ((cfgA T hT).win (3 : Fin 4)).index t0_3 a * main_v0.ty.shape.size a) = fun _ => 0 := funext fun a => by fin_cases a <;> rfl
  refine Eq.trans ?_ (Memref.read_access_unit_zero (Elt Ideal) main_v0 hz' (fun a => by rw [congrFun hz' a]; simp) (result T m c)).symm
  exact traj_last T hT m ρ c _

theorem final (c : Dev nD) : (dats T hT m ρ 0 c).arrAt (3 : Fin 4) (cfgA T hT).N = result T m c :=
  (dats T hT m ρ 0 c).arrAt_eq_of_cover (3 : Fin 4) (result T m c) (flushed_last T hT m ρ c) fun i =>
    ⟨t0_3, by rw [flush_eq]; rfl, by
      show i ∈ ((View.whole main_v0).slice (((cfgA T hT).win (3 : Fin 4)).rect t0_3)).set
      rw [View.set_slice_whole, Rect.mem_set_unit]
      intro a
      have h0 : (i 0 : Nat) < 16 := (i 0).isLt
      have h1 : (i 1 : Nat) < 256 := (i 1).isLt
      match a with
      | ⟨0, _⟩ => show 0 * 16 ≤ (i 0 : Nat) ∧ (i 0 : Nat) < 0 * 16 + 16; omega
      | ⟨1, _⟩ => show 0 * 256 ≤ (i 1 : Nat) ∧ (i 1 : Nat) < 0 * 256 + 256; omega⟩

include hT in
/-- THE RUN, READ: the result array holds the segments' sums, the argument arrays are unchanged. -/
theorem run_value (hp : Pinned T m) :
    θ_run (defs (F := Ideal)) (onTc (τ := τ) (main (F := Ideal))) ⟨m, fun _ => 0, ρ⟩ (fun r => ∀ c : Dev nD,
      r.2.mem ((c.tc : Thread nD τ).loc main_v0) = result T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (3 : Fin 4)).trans (final T hT m ρ c),
    ((h c).1 (0 : Fin 4)).trans ((dats T hT m ρ 0 c).arrAt_in (0 : Fin 4) rfl _), ((h c).2 0).trans (hp c).symm,
    ((h c).1 (1 : Fin 4)).trans ((dats T hT m ρ 0 c).arrAt_in (1 : Fin 4) rfl _),
    ((h c).1 (2 : Fin 4)).trans ((dats T hT m ρ 0 c).arrAt_in (2 : Fin 4) rfl _)⟩) (run_main T hT m ρ hp)

end Cert.KernelIdeal.Table

end
-- ==== Proof.Reference.lean ====
/- WHAT THE REFERENCE LEAVES IN ITS RESULT ARRAY, at a sorted table of pointers: the same segment sums. A row's segment is one
   less than the number of pointers at most the row; the scattered sum at segment `s` and column `e` collects the rows whose
   segment is `s`, and rows outside every segment are set to zero first. -/
module

public import proofs.«01_k».proof.Proof.KernelIdeal.Value
public import proofs.«01_k».proof.Proof.Gen.ReferenceIdeal.Read
public import Idealize.ShloMosaic.Lib.StableHlo.Predicate
public import Idealize.ShloMosaic.Lib.Routing.OpsSearch

@[expose] public section

set_option maxRecDepth 16384

noncomputable section

/-! ## A row's rank among the pointers -/

namespace Cert.Segments

open Cert.Words

/-- How many pointers are at most `p`. -/
def rank (w : Fin 17 → BitVec 32) (p : ℕ) : ℕ := (Finset.univ.filter fun k : Fin 17 => (w k).toNat ≤ p).card

theorem rank_le (w : Fin 17 → BitVec 32) (p : ℕ) : rank w p ≤ 17 :=
  (Finset.card_le_univ _).trans (by simp)

/-- In a sorted table the rank is above `k` exactly when pointer `k` is at most the row. -/
theorem lt_rank {w : Fin 17 → BitVec 32} (hw : Sorted w) (p : ℕ) (k : Fin 17) : k.val < rank w p ↔ (w k).toNat ≤ p := by
  have hm := hw.monotone
  constructor
  · intro h
    by_contra hk
    have hs : (Finset.univ.filter fun j : Fin 17 => (w j).toNat ≤ p) ⊆ Finset.Iio k := by
      intro j hj
      rw [Finset.mem_Iio]
      by_contra hj'
      exact hk ((hm (not_lt.1 hj')).trans (Finset.mem_filter.1 hj).2)
    have hc := Finset.card_le_card hs
    rw [Fin.card_Iio] at hc
    exact absurd h (not_lt.2 hc)
  · intro h
    have hs : Finset.Iic k ⊆ Finset.univ.filter fun j : Fin 17 => (w j).toNat ≤ p := by
      intro j hj
      exact Finset.mem_filter.2 ⟨Finset.mem_univ _, (hm (Finset.mem_Iic.1 hj)).trans h⟩
    have hc := Finset.card_le_card hs
    rw [Fin.card_Iic] at hc
    exact hc

/-- A row is in segment `s` exactly when its rank is `s + 1`. -/
theorem inSeg_iff_rank {w : Fin 17 → BitVec 32} (hw : Sorted w) (s : Fin 16) (p : ℕ) : inSeg w s p ↔ rank w p = s.val + 1 := by
  have h0 := lt_rank hw p s.castSucc
  have h1 := lt_rank hw p s.succ
  rw [Fin.val_castSucc] at h0
  rw [Fin.val_succ] at h1
  unfold inSeg
  omega

/-- A row in a segment is between the first pointer and the last. -/
theorem inSeg_valid {w : Fin 17 → BitVec 32} (hw : Sorted w) {s : Fin 16} {p : ℕ} (h : inSeg w s p) : (w 0).toNat ≤ p ∧ p < (w 16).toNat :=
  ⟨(hw.monotone (Fin.zero_le _)).trans h.1, lt_of_lt_of_le h.2 (hw.monotone (Fin.le_last s.succ))⟩

end Cert.Segments

namespace Cert.ReferenceIdeal.Sums

open Cert.ReferenceIdeal Cert.ReferenceIdeal.Gen Cert.ReferenceIdeal.Read Cert.Words Cert.Segments
open Cert.KernelIdeal.Table (wd rowEntry total)
open Idealize.ShloMosaic Idealize.ShloMosaic.ValueIdx

variable (X : S32768x256.Idx → EReal) (T : S17.Idx → BitVec 32) (W : S256x256.Idx → EReal) (B : S256.Idx → EReal)

/-! ## The rectified rows -/

theorem slope_bits : Ideal.ofBits .f32 0x3E4CCCCD#32 = Segments.slope := by
  unfold Segments.slope
  simp [Ideal.ofBits, Ideal.ieee, -EReal.coe_mul]
  norm_num

theorem linear_apply (p : Fin 32768) (e : Fin 256) :
    val_main_v4 (F := Ideal) X W B (ix2 p e) = (∑ k, X (ix2 p k) * W (ix2 e k)) + B (ix1 e) := by
  rw [val_main_v4_apply, val_main_v1_apply, val_main_v3_apply, val_main_v2_apply]
  have hx : ∀ k, lidx_main_v1 (ix2 p e) k = ix2 p k := fun k => funext fun a => by match a with | ⟨0, _⟩ => rfl | ⟨1, _⟩ => rfl
  have hw : ∀ k, idx_main_v0 (ridx_main_v1 (ix2 p e) k) = ix2 e k := fun k => funext fun a => by match a with | ⟨0, _⟩ => rfl | ⟨1, _⟩ => rfl
  have hb : idx_main_v2 (idx_main_v3 (ix2 p e)) = ix1 e := funext fun a => by match a with | ⟨0, _⟩ => rfl
  simp only [val_main_v0_apply, hx, hw, hb]
  rfl

theorem rect_apply (p : Fin 32768) (e : Fin 256) :
    val_main_v9 (F := Ideal) X W B (ix2 p e) = rowEntry X W B e p.val := by
  unfold rowEntry
  rw [dif_pos p.isLt]
  unfold entry
  rw [val_main_v9_apply, val_main_v6_apply, val_main_v8_apply, val_main_v5_apply, val_main_v7_apply, val_main_cst_apply, val_main_cst_0_apply,
    linear_apply]
  show Scalar.select (Ideal.cmp .ogt _ (Ideal.ofBits .f32 0x00000000#32)) _ (Ideal.ofBits .f32 0x3E4CCCCD#32 * _) = _
  rw [slope_bits, Ideal.ofBits_zero_f32]
  generalize (∑ k, X (ix2 p k) * W (ix2 e k)) + B (ix1 e) = z
  by_cases h : 0 < z
  · rw [leaky_of_pos h]
    simp [Ideal.cmp, Scalar.select, h]
  · rw [leaky_of_nonpos h]
    simp [Ideal.cmp, Scalar.select, h]

/-! ## A row's segment -/

/-- The word of row `p`. -/
theorem row_toNat (p : Fin 32768) : (BitVec.ofNat 32 p.val).toNat = p.val := by
  have := p.isLt; rw [BitVec.toNat_ofNat]; omega

theorem count_apply (hT : Sorted (wd T)) (p : Fin 32768) : val_main_v17 (F := Ideal) T (ix1 p) = BitVec.ofNat 32 (rank (wd T) p.val) := by
  have h := StableHlo.Predicate.toNat_reduce_count_cols (n := 32768) (m := 17) (by norm_num) (val_main_v15 (F := Ideal) T) natLt_1_32 reducesTo_S32768x17_S32768_d1 h_S_ (ix1 p)
  have hc : (val_main_v17 (F := Ideal) T (ix1 p)).toNat = rank (wd T) p.val := by
    refine h.trans (congrArg Finset.card (Finset.filter_congr fun q _ => ?_))
    rw [val_main_v15_apply, val_main_v13_apply, val_main_v11_apply, val_main_v14_apply, val_main_v12_apply, val_main_v10_apply]
    have ht : T (idx_main_v11 (idx_main_v13 (StableHlo.Predicate.ij ((ix1 p : S32768.Idx) 0) q))) = wd T q :=
      congrArg T (funext fun a => by match a with | ⟨0, _⟩ => rfl)
    rw [ht]
    refine (StableHlo.Predicate.sle_iff_toNat (lt_trans (hT.lt q) (by norm_num)) ?_).trans ?_
    · show (BitVec.ofNat 32 p.val).toNat < 2 ^ 31
      rw [row_toNat]; exact lt_trans p.isLt (by norm_num)
    · show _ ≤ (BitVec.ofNat 32 p.val).toNat ↔ _
      rw [row_toNat]
  apply BitVec.eq_of_toNat_eq
  rw [hc, BitVec.toNat_ofNat]
  have := rank_le (wd T) p.val
  omega

/-- The segment word of a row between the first pointer and the last. -/
theorem seg_apply (hT : Sorted (wd T)) (p : Fin 32768) (h : (wd T 0).toNat ≤ p.val ∧ p.val < (wd T 16).toNat) :
    val_main_v20 (F := Ideal) T (ix1 p) = BitVec.ofNat 32 (rank (wd T) p.val - 1) := by
  have h1 : 1 ≤ rank (wd T) p.val := (lt_rank hT p.val 0).2 h.1
  have h2 : rank (wd T) p.val ≤ 16 := not_lt.1 fun h' => absurd ((lt_rank hT p.val 16).1 h') (not_le.2 h.2)
  rw [val_main_v20_apply, val_main_call1_v4_apply, val_main_call1_v3_apply, val_main_c_3_apply, val_main_call1_v2_apply, val_main_call1_v1_apply,
    val_main_call1_v0_apply, val_main_c_2_apply, val_main_v19_apply, count_apply T hT, val_main_v18_apply, val_main_c_1_apply]
  have hs : IntOp.subi (BitVec.ofNat 32 (rank (wd T) p.val)) 1#32 = BitVec.ofNat 32 (rank (wd T) p.val - 1) :=
    StableHlo.Predicate.sub_one_ofNat _ h1 (by omega)
  rw [hs]
  refine (Routing.clip_word (x := rank (wd T) p.val - 1) (lo := 0) (hi := 15) (by omega) (by norm_num) (by norm_num)).trans ?_
  congr 1
  omega

/-- Whether a row is between the first pointer and the last, as the reference computes it. -/
theorem valid_apply (hT : Sorted (wd T)) (p : Fin 32768) :
    val_main_v29 (F := Ideal) T (ix1 p) = 1#1 ↔ (wd T 0).toNat ≤ p.val ∧ p.val < (wd T 16).toNat := by
  have h0 : val_main_v22 (F := Ideal) T (idx_main_v23 (ix1 p)) = wd T 0 := by
    unfold val_main_v22
    rw [shapeCast_apply _ _ _ (ix1 (0 : Fin 1)) (by rw [Shape.rowMajor_val_one]; exact (Shape.rowMajorPi_zero _ _).symm), val_main_v21_apply]
    exact congrArg T (funext fun a => by match a with | ⟨0, _⟩ => rfl)
  have h16 : val_main_v26 (F := Ideal) T (idx_main_v27 (ix1 p)) = wd T 16 := by
    unfold val_main_v26
    rw [shapeCast_apply _ _ _ (ix1 (0 : Fin 1)) (by rw [Shape.rowMajor_val_one]; exact (Shape.rowMajorPi_zero _ _).symm), val_main_v25_apply]
    exact congrArg T (funext fun a => by match a with | ⟨0, _⟩ => rfl)
  have hp : (BitVec.ofNat 32 p.val).toNat < 2 ^ 31 := by rw [row_toNat]; exact lt_trans p.isLt (by norm_num)
  rw [val_main_v29_apply, val_main_v24_apply, val_main_v28_apply, val_main_v23_apply, val_main_v27_apply, h0, h16, val_main_v10_apply]
  refine (KernelIdeal.Table.between_iff hp (lt_trans (hT.lt 0) (by norm_num)) (lt_trans (hT.lt 16) (by norm_num))).trans ?_
  rw [row_toNat]

/-- A row's update: its rectified entry between the first pointer and the last, zero elsewhere. -/
theorem update_apply (hT : Sorted (wd T)) (p : Fin 32768) (e : Fin 256) :
    val_main_v31 (F := Ideal) X T W B (ix2 p e) = if (wd T 0).toNat ≤ p.val ∧ p.val < (wd T 16).toNat then rowEntry X W B e p.val else 0 := by
  have hi : idx_main_v30 (idx_main_call2_v1 (ix2 p e)) = ix1 p := funext fun a => by match a with | ⟨0, _⟩ => rfl
  rw [val_main_v31_apply, val_main_call2_v1_apply, val_main_v30_apply, hi, rect_apply, val_main_call2_v2_apply, val_main_call2_v0_apply, val_main_cst_4_apply]
  have hv := valid_apply T hT p
  by_cases h : (wd T 0).toNat ≤ p.val ∧ p.val < (wd T 16).toNat
  · rw [if_pos h, hv.2 h]; rfl
  · have hz : val_main_v29 (F := Ideal) T (ix1 p) = 0#1 := (BitVec.eq_zero_or_eq_one _).resolve_right fun h' => h (hv.1 h')
    rw [if_neg h, hz]
    exact Ideal.ofBits_zero_f32

/-! ## The scattered sum -/

abbrev dSc : ScatterDims S16x256 S32768x1 S32768x256 := scatter_S16x256_S32768x1_S32768x256_1_0_0_1

theorem start_0 (idx : IVec S32768x1 32) (p : Fin 32768) (e : Fin 256) : dSc.start (ix2 p e) idx 0 = (idx (ix2 p (0 : Fin 1))).toInt := by
  unfold ScatterDims.start
  rw [dif_pos (show (0 : Fin S16x256.rank) ∈ dSc.scatterDimsToOperandDims by decide)]
  refine congrArg (fun i => (idx i).toInt) (funext fun a => ?_)
  match a with
  | ⟨0, _⟩ => rfl
  | ⟨1, _⟩ => rfl

theorem start_1 (idx : IVec S32768x1 32) (p : Fin 32768) (e : Fin 256) : dSc.start (ix2 p e) idx 1 = 0 := by
  unfold ScatterDims.start
  rw [dif_neg (show ¬(1 : Fin S16x256.rank) ∈ dSc.scatterDimsToOperandDims by decide)]

theorem window_0 (p : Fin 32768) (e : Fin 256) : dSc.window (ix2 p e) 0 = 0 := by
  unfold ScatterDims.window
  rw [dif_neg (show ¬(0 : Fin S16x256.rank) ∈ dSc.sKept by decide)]

theorem window_1 (p : Fin 32768) (e : Fin 256) : dSc.window (ix2 p e) 1 = e.val := by
  unfold ScatterDims.window
  rw [dif_pos (show (1 : Fin S16x256.rank) ∈ dSc.sKept by decide)]
  rfl

/-- Where an update lands. -/
theorem lands (idx : IVec S32768x1 32) (p : Fin 32768) (e' : Fin 256) (s : Fin 16) (e : Fin 256) :
    dSc.resultIdx? (ix2 p e') idx = some (ix2 s e) ↔ (idx (ix2 p (0 : Fin 1))).toInt = s.val ∧ e' = e := by
  have a0 := start_0 idx p e'
  have a1 := start_1 idx p e'
  have b0 := window_0 p e'
  have b1 := window_1 p e'
  have hs := s.isLt
  have he' := e'.isLt
  unfold ScatterDims.resultIdx?
  constructor
  · intro h
    split at h
    · rename_i hin
      have h' := Option.some.inj h
      have c0 := congrArg Fin.val (congrFun h' 0)
      have c1 := congrArg Fin.val (congrFun h' 1)
      have i0 := hin 0
      simp only [a0, a1, b0, b1] at c0 c1 i0
      change _ = s.val at c0
      change _ = e.val at c1
      exact ⟨by omega, Fin.ext (by omega)⟩
    · exact absurd h (by simp)
  · rintro ⟨h0, rfl⟩
    have hin : ∀ a, 0 ≤ dSc.start (ix2 p e') idx a + dSc.window (ix2 p e') a ∧ dSc.start (ix2 p e') idx a + dSc.window (ix2 p e') a < S16x256.size a := by
      intro a
      match a with
      | ⟨0, _⟩ =>
        show 0 ≤ dSc.start (ix2 p e') idx 0 + dSc.window (ix2 p e') 0 ∧ dSc.start (ix2 p e') idx 0 + dSc.window (ix2 p e') 0 < (16 : ℕ)
        rw [a0, b0, h0]; omega
      | ⟨1, _⟩ =>
        show 0 ≤ dSc.start (ix2 p e') idx 1 + dSc.window (ix2 p e') 1 ∧ dSc.start (ix2 p e') idx 1 + dSc.window (ix2 p e') 1 < (256 : ℕ)
        rw [a1, b1]; omega
    rw [dif_pos hin]
    refine congrArg some (funext fun a => Fin.ext ?_)
    match a with
    | ⟨0, _⟩ =>
      show (dSc.start (ix2 p e') idx 0 + dSc.window (ix2 p e') 0).toNat = s.val
      rw [a0, b0, h0]; omega
    | ⟨1, _⟩ =>
      show (dSc.start (ix2 p e') idx 1 + dSc.window (ix2 p e') 1).toNat = e'.val
      rw [a1, b1]; omega

/-- A scattered sum at an entry: what was there and the updates that land on it, row by row. -/
theorem scatter_apply (v : S16x256.Idx → EReal) (idx : IVec S32768x1 32) (upd : S32768x256.Idx → EReal) (s : Fin 16) (e : Fin 256) :
    Host.scatterAdd (F := Ideal) (φ := .f32) dSc v idx upd (ix2 s e)
      = v (ix2 s e) + ∑ p : Fin 32768, if (idx (ix2 p (0 : Fin 1))).toInt = s.val then upd (ix2 p e) else 0 := by
  have h0 : Host.scatterAdd (F := Ideal) (φ := .f32) dSc v idx upd (ix2 s e) = Ideal.hostScatterAdd dSc v idx upd (ix2 s e) := rfl
  rw [h0]
  unfold Ideal.hostScatterAdd
  refine congrArg (v (ix2 s e) + ·) ?_
  rw [Finset.sum_filter, sum_idx2]
  refine Finset.sum_congr rfl fun p _ => ?_
  rw [Finset.sum_eq_single e]
  · refine if_congr ((lands idx p e s e).trans (and_iff_left rfl)) rfl rfl
  · intro e' _ hne
    rw [if_neg fun h => hne ((lands idx p e' s e).1 h).2]
  · intro h; exact absurd (Finset.mem_univ _) h

/-- THE REFERENCE'S RESULT at an entry. -/
theorem result_apply (hT : Sorted (wd T)) (s : Fin 16) (e : Fin 256) :
    val_main_v34 (F := Ideal) X T W B (ix2 s e) = total (wd T) X W B s e := by
  have hz : val_main_v32 (F := Ideal) (ix2 s e) = (0 : EReal) := by
    rw [val_main_v32_apply, val_main_cst_5_apply]; exact Ideal.ofBits_zero_f32
  unfold val_main_v34
  refine (scatter_apply _ _ _ s e).trans ?_
  rw [hz, zero_add]
  unfold total
  rw [Finset.sum_range]
  refine Finset.sum_congr rfl fun p _ => ?_
  have hi : val_main_v33 (F := Ideal) T (ix2 p (0 : Fin 1)) = val_main_v20 (F := Ideal) T (ix1 p) := by
    rw [val_main_v33_apply]
    exact congrArg _ (funext fun a => by match a with | ⟨0, _⟩ => rfl)
  unfold term
  rw [update_apply X T W B hT]
  by_cases hv : (wd T 0).toNat ≤ p.val ∧ p.val < (wd T 16).toNat
  · rw [if_pos hv]
    refine if_congr ?_ rfl rfl
    rw [hi, seg_apply T hT p hv, inSeg_iff_rank hT]
    have h1 : 1 ≤ rank (wd T) p.val := (lt_rank hT p.val 0).2 hv.1
    have h2 := rank_le (wd T) p.val
    have hn : (BitVec.ofNat 32 (rank (wd T) p.val - 1)).toInt = ((rank (wd T) p.val - 1 : ℕ) : ℤ) := by
      rw [BitVec.toInt_eq_toNat_of_lt (by rw [BitVec.toNat_ofNat]; omega), BitVec.toNat_ofNat, Nat.mod_eq_of_lt (by omega)]
    rw [hn]
    omega
  · rw [if_neg hv, ite_self, if_neg fun h => hv (inSeg_valid hT h)]

end Cert.ReferenceIdeal.Sums

end
-- ==== Proof.lean ====
/- THE CLAIM: the kernel's frames at the machine numbers and at the extended reals, the reference's frame, the renamed
   constant, and the equality of the two results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_pointers
public import proofs.«01_k».proof.Proof.Pointers
public import proofs.«01_k».proof.Proof.Kernel.Run
public import proofs.«01_k».proof.Proof.KernelIdeal.Run
public import proofs.«01_k».proof.Proof.KernelIdeal.Value
public import proofs.«01_k».proof.Proof.Reference

@[expose] public section

noncomputable section

namespace Cert.Proof

open Idealize.ShloMosaic Idealize.SL.Sem Idealize.ShloMosaic.TcCoe

/-- There is one device: every device holds the table device 0 holds. -/
theorem pinned_Kernel (m : (ℓ : Loc Cert.Kernel.nD Cert.Kernel.τ Cert.Kernel.sig) → Buf (Elt Bits) ℓ) :
    Cert.Kernel.Table.Pinned (m (((0 : Dev Cert.Kernel.nD).tc : Thread Cert.Kernel.nD Cert.Kernel.τ).loc Cert.Kernel.main_arg1)) m :=
  fun c => by rw [Subsingleton.elim c (0 : Dev Cert.Kernel.nD)]

theorem pinned_KernelIdeal (m : (ℓ : Loc Cert.KernelIdeal.nD Cert.KernelIdeal.τ Cert.KernelIdeal.sig) → Buf (Elt Ideal) ℓ) :
    Cert.KernelIdeal.Table.Pinned (m (((0 : Dev Cert.KernelIdeal.nD).tc : Thread Cert.KernelIdeal.nD Cert.KernelIdeal.τ).loc Cert.KernelIdeal.main_arg1)) m :=
  fun c => by rw [Subsingleton.elim c (0 : Dev Cert.KernelIdeal.nD)]

/-- The kernel's frame at the machine numbers. -/
theorem frame_Kernel : Cert.quiescent_Kernel := fun m ρ h =>
  Cert.Kernel.Table.frame _ (Cert.Pointers.sorted_of_pre _ _ _ _ (h 0)) m ρ (pinned_Kernel m)

/-- The kernel's frame at the extended reals. -/
theorem frame_KernelIdeal : Cert.quiescent_KernelIdeal := fun m ρ h =>
  Cert.KernelIdeal.Table.frame _ (Cert.Pointers.sorted_of_pre _ _ _ _ (h 0)) m ρ (pinned_KernelIdeal m)

/-- The reference's frame: its run ends with the arguments unchanged, and it holds no semaphore. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- What the reference leaves, on arguments that the kernel holds too, is the kernel's result: at each segment and feature
    the sum of the rectified linear layer over the segment's rows. -/
theorem reference_value (T : IVec Cert.KernelIdeal.S17 32) (hT : Cert.Words.Sorted (Cert.KernelIdeal.Table.wd T))
    (X : Cert.KernelIdeal.S32768x256.Idx → EReal) (W : Cert.KernelIdeal.S256x256.Idx → EReal) (B : Cert.KernelIdeal.S256.Idx → EReal) :
    Cert.ReferenceIdeal.Read.val_main_v34 (F := Ideal) X T W B
      = fun j => Cert.KernelIdeal.Table.total (Cert.KernelIdeal.Table.wd T) X W B (j 0) (j 1) :=
  funext fun j => by
    conv_lhs => rw [ValueIdx.eq_ix2 j]
    exact Cert.ReferenceIdeal.Sums.result_apply X T W B hT (j 0) (j 1)

/-- The idealized kernel and the idealized reference end with equal results. -/
theorem algebraic : Cert.algebraic_KernelIdeal_ReferenceIdeal := fun m g m' g' hpre hargs =>
  have hT := Cert.Pointers.sorted_of_pre _ _ _ _ (hpre 0)
  ⟨fun c => Cert.KernelIdeal.Table.result _ m c,
    Cert.KernelIdeal.Table.run_value _ hT m g (pinned_KernelIdeal m),
    (θ_run Cert.ReferenceIdeal.defs _ _).mono
      (fun r h c => ⟨(h c).1.trans ((Cert.ReferenceIdeal.Read.val_main_v34_eq _ _ _ _).trans (by
          obtain ⟨e0, e1, e2, e3⟩ := hargs c
          rw [e0, e1, e2, e3, pinned_KernelIdeal m c]
          exact reference_value _ hT _ _ _)), (h c).2⟩)
      (Cert.ReferenceIdeal.Value.run m' g')⟩

/-- Everything that is claimed. -/
theorem claim : Cert.Claim :=
  ⟨Cert.Kernel.Gen.facts, Cert.KernelIdeal.Gen.facts, Cert.ReferenceIdeal.Gen.facts, Cert.Pre_sorted_pointers.Gen.facts,
    frame_Kernel, frame_KernelIdeal, frame_ReferenceIdeal, fun m ρ _ => frame_ReferenceIdeal m ρ trivial,
    IdealRules.named_const.statement Cert.KernelIdeal.κ "slope" .bf16 0x3E4D#16 ((13421773 / 67108864 : ℝ) : EReal) rfl,
    algebraic⟩

end Cert.Proof

end
